-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x49152 : Shape := ⟨3, ![2, 128, 49152]⟩
abbrev S2x4x16 : Shape := ⟨3, ![2, 4, 16]⟩
abbrev S2x128x960 : Shape := ⟨3, ![2, 128, 960]⟩
abbrev S2x4 : Shape := ⟨2, ![2, 4]⟩
abbrev S256x960 : Shape := ⟨2, ![256, 960]⟩
abbrev S256 : Shape := ⟨1, ![256]⟩
abbrev S256x49152 : Shape := ⟨2, ![256, 49152]⟩
abbrev S2x960x128 : Shape := ⟨3, ![2, 960, 128]⟩
abbrev S960x256 : Shape := ⟨2, ![960, 256]⟩
abbrev S1x256 : Shape := ⟨2, ![1, 256]⟩
abbrev S960x49152 : Shape := ⟨2, ![960, 49152]⟩
abbrev S256x1024 : Shape := ⟨2, ![256, 1024]⟩
abbrev S960x1024 : Shape := ⟨2, ![960, 1024]⟩
abbrev S256x128 : Shape := ⟨2, ![256, 128]⟩
abbrev S1x128 : Shape := ⟨2, ![1, 128]⟩
abbrev S1x1 : Shape := ⟨2, ![1, 1]⟩
abbrev S1x960x128 : Shape := ⟨3, ![1, 960, 128]⟩
abbrev S960x128 : Shape := ⟨2, ![960, 128]⟩
abbrev S128x128 : Shape := ⟨2, ![128, 128]⟩
abbrev S32x256 : Shape := ⟨2, ![32, 256]⟩
abbrev S1x1x1 : Shape := ⟨3, ![1, 1, 1]⟩
abbrev S256x256 : Shape := ⟨2, ![256, 256]⟩
abbrev S49152x960 : Shape := ⟨2, ![49152, 960]⟩

abbrev nBuf : Space → Nat
  | .hbm => 13
  | .vmem => 12
  | .smem => 3
  | _ => 0

abbrev bufTy : (tb : Table) → Fin (tcTables nBuf tb) → BufTy
  | .hbm, ⟨0, _⟩ => ⟨S2x128x49152, .fp8e5m2⟩
  | .hbm, ⟨1, _⟩ => ⟨S2x4x16, .f32⟩
  | .hbm, ⟨2, _⟩ => ⟨S2x128x960, .fp8e4m3⟩
  | .hbm, ⟨3, _⟩ => ⟨S2x4, .f32⟩
  | .hbm, ⟨4, _⟩ => ⟨S256x960, .fp8e5m2⟩
  | .hbm, ⟨5, _⟩ => ⟨S256, .f32⟩
  | .hbm, ⟨6, _⟩ => ⟨S256x49152, .fp8e5m2⟩
  | .hbm, ⟨7, _⟩ => ⟨S2x960x128, .fp8e4m3⟩
  | .hbm, ⟨8, _⟩ => ⟨S960x256, .fp8e5m2⟩
  | .hbm, ⟨9, _⟩ => ⟨S1x256, .f32⟩
  | .hbm, ⟨10, _⟩ => ⟨S1x256, .i32⟩
  | .hbm, ⟨11, _⟩ => ⟨S960x49152, .f32⟩
  | .hbm, ⟨12, _⟩ => ⟨S49152x960, .f32⟩
  | .local _ .vmem, ⟨0, _⟩ => ⟨S256x1024, .fp8e5m2⟩
  | .local _ .vmem, ⟨1, _⟩ => ⟨S256x1024, .fp8e5m2⟩
  | .local _ .vmem, ⟨2, _⟩ => ⟨S2x960x128, .fp8e4m3⟩
  | .local _ .vmem, ⟨3, _⟩ => ⟨S960x256, .fp8e5m2⟩
  | .local _ .vmem, ⟨4, _⟩ => ⟨S1x256, .f32⟩
  | .local _ .vmem, ⟨5, _⟩ => ⟨S1x256, .i32⟩
  | .local _ .vmem, ⟨6, _⟩ => ⟨S960x1024, .f32⟩
  | .local _ .vmem, ⟨7, _⟩ => ⟨S960x1024, .f32⟩
  | .local _ .vmem, ⟨8, _⟩ => ⟨S960x256, .bf16⟩
  | .local _ .vmem, ⟨9, _⟩ => ⟨S960x256, .bf16⟩
  | .local _ .vmem, ⟨10, _⟩ => ⟨S256x128, .i32⟩
  | .local _ .vmem, ⟨11, _⟩ => ⟨S256x128, .f32⟩
  | .local _ .smem, ⟨0, _⟩ => ⟨S256, .i32⟩
  | .local _ .smem, ⟨1, _⟩ => ⟨S2x4x16, .f32⟩
  | .local _ .smem, ⟨2, _⟩ => ⟨S2x4, .f32⟩
  | _, _ => ⟨S2x128x49152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg6 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let c0_7 : Index := 0#32
  let c0_8 : Index := 0#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v24 : Index := Scalar.indexCast v20
  ![0, 0, v24.toNat]
def k0_off2 (i : grid0.Coords) : Fin 3 → Nat :=
  let c0_10 : Index := 0#32
  let c1 : Index := 1#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v33 : Index := Scalar.indexCast v20
  ![0, 1, v33.toNat]
def k0_off3 (i : grid0.Coords) : Fin 3 → Nat :=
  let c0_12 : Index := 0#32
  let c2 : Index := 2#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v42 : Index := Scalar.indexCast v20
  ![0, 2, v42.toNat]
def k0_off4 (i : grid0.Coords) : Fin 3 → Nat :=
  let c0_14 : Index := 0#32
  let c3 : Index := 3#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v51 : Index := Scalar.indexCast v20
  ![0, 3, v51.toNat]
def k0_off5 (i : grid0.Coords) : Fin 3 → Nat :=
  let c1_16 : Index := 1#32
  let c0_17 : Index := 0#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v60 : Index := Scalar.indexCast v20
  ![1, 0, v60.toNat]
def k0_off6 (i : grid0.Coords) : Fin 3 → Nat :=
  let c1_19 : Index := 1#32
  let c1_20 : Index := 1#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v69 : Index := Scalar.indexCast v20
  ![1, 1, v69.toNat]
def k0_off7 (i : grid0.Coords) : Fin 3 → Nat :=
  let c1_22 : Index := 1#32
  let c2_23 : Index := 2#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v78 : Index := Scalar.indexCast v20
  ![1, 2, v78.toNat]
def k0_off8 (i : grid0.Coords) : Fin 3 → Nat :=
  let c1_25 : Index := 1#32
  let c3_26 : Index := 3#32
  let arg0 : BitVec 32 := BitVec.ofNat 32 (i 0).val
  let c1024_i32 : BitVec 32 := 1024#32
  let v3 : BitVec 32 := Scalar.muli arg0 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c3072_i32 : BitVec 32 := 3072#32
  let c0_i32_3 : BitVec 32 := 0#32
  let v10 : BitVec 1 := Scalar.cmpi .sgt c3072_i32 c0_i32_3
  let v11 : BitVec 32 := Scalar.extui v10
  let c0_i32_4 : BitVec 32 := 0#32
  let v12 : BitVec 1 := Scalar.cmpi .slt c3072_i32 c0_i32_4
  let v13 : BitVec 32 := Scalar.extui v12
  let v14 : BitVec 32 := Scalar.subi v11 v13
  let v15 : BitVec 1 := Scalar.cmpi .ne v9 v14
  let v16 : BitVec 32 := Scalar.remsi v3 c3072_i32
  let c0_i32_5 : BitVec 32 := 0#32
  let v17 : BitVec 1 := Scalar.cmpi .ne v16 c0_i32_5
  let v18 : BitVec 1 := Scalar.andi v15 v17
  let v4 : BitVec 32 := Scalar.divsi v3 c3072_i32
  let c1_i32 : BitVec 32 := 1#32
  let v19 : BitVec 32 := Scalar.subi v4 c1_i32
  let v20 : BitVec 32 := Scalar.select v18 v19 v4
  let v87 : Index := Scalar.indexCast v20
  ![1, 3, v87.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2x4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x960x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S960x256 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S960x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x128x49152 : Shape := ⟨3, ![2, 128, 49152]⟩
abbrev S2x4x16 : Shape := ⟨3, ![2, 4, 16]⟩
abbrev S2x128x960 : Shape := ⟨3, ![2, 128, 960]⟩
abbrev S2x4 : Shape := ⟨2, ![2, 4]⟩
abbrev S256x960 : Shape := ⟨2, ![256, 960]⟩
abbrev S256 : Shape := ⟨1, ![256]⟩
abbrev S2x4x32x16x3072 : Shape := ⟨5, ![2, 4, 32, 16, 3072]⟩
abbrev S2x4x1x16x1 : Shape := ⟨5, ![2, 4, 1, 16, 1]⟩
abbrev S2x4x32x960 : Shape := ⟨4, ![2, 4, 32, 960]⟩
abbrev S2x4x1x1 : Shape := ⟨4, ![2, 4, 1, 1]⟩
abbrev S49152x960 : Shape := ⟨2, ![49152, 960]⟩
abbrev S256x1 : Shape := ⟨2, ![256, 1]⟩
abbrev S_ : Shape := ⟨0, ![]⟩

abbrev nBuf : Space → Nat
  | .hbm => 31
  | .vmem => 6
  | .smem => 0
  | _ => 0

abbrev bufTy : (tb : Table) → Fin (tcTables nBuf tb) → BufTy
  | .hbm, ⟨0, _⟩ => ⟨S2x128x49152, .fp8e5m2⟩
  | .hbm, ⟨1, _⟩ => ⟨S2x4x16, .f32⟩
  | .hbm, ⟨2, _⟩ => ⟨S2x128x960, .fp8e4m3⟩
  | .hbm, ⟨3, _⟩ => ⟨S2x4, .f32⟩
  | .hbm, ⟨4, _⟩ => ⟨S256x960, .fp8e5m2⟩
  | .hbm, ⟨5, _⟩ => ⟨S256, .f32⟩
  | .hbm, ⟨6, _⟩ => ⟨S256, .i32⟩
  | .hbm, ⟨7, _⟩ => ⟨S2x128x49152, .bf16⟩
  | .hbm, ⟨8, _⟩ => ⟨S2x128x960, .bf16⟩
  | .hbm, ⟨9, _⟩ => ⟨S256x960, .f32⟩
  | .hbm, ⟨10, _⟩ => ⟨S2x4x32x16x3072, .bf16⟩
  | .hbm, ⟨11, _⟩ => ⟨S2x4x16, .bf16⟩
  | .hbm, ⟨12, _⟩ => ⟨S2x4x1x16x1, .bf16⟩
  | .hbm, ⟨13, _⟩ => ⟨S2x4x32x16x3072, .bf16⟩
  | .hbm, ⟨14, _⟩ => ⟨S2x4x32x16x3072, .bf16⟩
  | .hbm, ⟨15, _⟩ => ⟨S2x128x49152, .bf16⟩
  | .hbm, ⟨16, _⟩ => ⟨S2x4x32x960, .bf16⟩
  | .hbm, ⟨17, _⟩ => ⟨S2x4, .bf16⟩
  | .hbm, ⟨18, _⟩ => ⟨S2x4x1x1, .bf16⟩
  | .hbm, ⟨19, _⟩ => ⟨S2x4x32x960, .bf16⟩
  | .hbm, ⟨20, _⟩ => ⟨S2x4x32x960, .bf16⟩
  | .hbm, ⟨21, _⟩ => ⟨S2x128x960, .bf16⟩
  | .hbm, ⟨22, _⟩ => ⟨S49152x960, .f32⟩
  | .hbm, ⟨23, _⟩ => ⟨S256x1, .f32⟩
  | .hbm, ⟨24, _⟩ => ⟨S256x960, .f32⟩
  | .hbm, ⟨25, _⟩ => ⟨S256x960, .f32⟩
  | .hbm, ⟨26, _⟩ => ⟨S_, .f32⟩
  | .hbm, ⟨27, _⟩ => ⟨S49152x960, .f32⟩
  | .hbm, ⟨28, _⟩ => ⟨S256x1, .i32⟩
  | .hbm, ⟨29, _⟩ => ⟨S49152x960, .f32⟩
  | .hbm, ⟨30, _⟩ => ⟨S49152x960, .f32⟩
  | .local _ .vmem, ⟨0, _⟩ => ⟨S2x128x49152, .fp8e5m2⟩
  | .local _ .vmem, ⟨1, _⟩ => ⟨S2x128x960, .fp8e4m3⟩
  | .local _ .vmem, ⟨2, _⟩ => ⟨S256x960, .fp8e5m2⟩
  | .local _ .vmem, ⟨3, _⟩ => ⟨S2x128x49152, .bf16⟩
  | .local _ .vmem, ⟨4, _⟩ => ⟨S2x128x960, .bf16⟩
  | .local _ .vmem, ⟨5, _⟩ => ⟨S256x960, .f32⟩
  | _, _ => ⟨S2x128x49152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x128x49152 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x960 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x49152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/-
  One 256-column tile of the output block, as a function of what the body loads for it: eight blocks of 32 gradient codes with
  their eight scales, the two scratches that hold the transposed activations and embedding gradients, and the two that
  hold the token ids and their scales. `tile` is the body's own expression; `tile_apply` reads it at an index over the reals.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- One block of 32 token rows: its codes, widened, times the block's scale. -/
def blk (v : Vec F S32x256 .fp8e5m2) (s : Elt F .f32) : FVec F S32x256 .bf16 :=
  mulf (extf .bf16 (shapeCast S32x256 v shapeCasts_S32x256_S32x256) bitsLt_fp8e5m2_bf16)
    (broadcastTo S32x256 (truncf .bf16 (broadcast S1x256 s) bitsLt_bf16_f32) broadcasts_S1x256_S32x256)

/-- The eight blocks stacked: the scaled gradients of all 256 tokens. -/
def stack (p : Fin 8 → FVec F S32x256 .bf16) : FVec F S256x256 .bf16 :=
  concatenate S256x256 0 [⟨S32x256, p 0⟩, ⟨S32x256, p 1⟩, ⟨S32x256, p 2⟩, ⟨S32x256, p 3⟩, ⟨S32x256, p 4⟩, ⟨S32x256, p 5⟩,
    ⟨S32x256, p 6⟩, ⟨S32x256, p 7⟩]
    concatenates_S32x256_S32x256_S32x256_S32x256_S32x256_S32x256_S32x256_S32x256_S256x256_d0

/-- Half of the selection matrix: a token's scale where the token's id is the column's vocabulary word, else zero. -/
def half (w : BitVec 32) (ids : Vec F S256x128 .i32) (sc : Vec F S256x128 .f32) : FVec F S256x128 .bf16 :=
  truncf .bf16 (select (cmpi .eq ids (broadcastTo S256x128 (addi (broadcast S1x128 w)
      (iota .tc S1x128 32 [1] iota_S1x128_d1_w32)) broadcasts_S1x128_S256x128)) sc
    (broadcast S256x128 (Scalar.ofBits .f32 0x00000000#32 : F .f32))) bitsLt_bf16_f32

/-- The selection matrix of a tile whose first column is word `w`. -/
def hot (w : BitVec 32) (ids : Vec F S256x128 .i32) (sc : Vec F S256x128 .f32) : FVec F S256x256 .bf16 :=
  concatenate S256x256 1 [⟨S256x128, half (Scalar.addi w 0#32) ids sc⟩, ⟨S256x128, half (Scalar.addi w 128#32) ids sc⟩]
    concatenates_S256x128_S256x128_S256x256_d1

/-- The tile: activations times gradients plus embedding gradients times selection matrix. -/
def tile (a c : BitVec 32) (v : Fin 8 → Vec F S32x256 .fp8e5m2) (s : Fin 8 → Elt F .f32)
    (hx et : Vec F S960x256 .bf16) (ids : Vec F S256x128 .i32) (sc : Vec F S256x128 .f32) : FVec F S960x256 .f32 :=
  addf (matmul dot_S960x256_S256x256_S960x256_1_0_0_1_n_n none hx (stack fun r => blk (v r) (s r))
      (constant S960x256 .f32 0x00000000#32))
    (matmul dot_S960x256_S256x256_S960x256_1_0_0_1_n_n none et (hot (Scalar.addi (Scalar.muli a 1024#32) c) ids sc)
      (constant S960x256 .f32 0x00000000#32))

/-- Block `n / 32`, row `n % 32`: where the stack holds token `n`. -/
theorem stack_apply (p : Fin 8 → FVec F S32x256 .bf16) (n q : Fin 256) :
    stack p (ix2 n q) = p ⟨n.val / 32, by omega⟩ (ix2 ⟨n.val % 32, by omega⟩ q) := by
  unfold stack
  pointwise
  have key : ∀ (k : Fin 8) (m : ℕ) (hm : m < 32), n.val = 32 * k.val + m →
      p k (ix2 ⟨m, hm⟩ q) = p ⟨n.val / 32, by omega⟩ (ix2 ⟨n.val % 32, by omega⟩ q) := by
    intro k m hm h
    have e : ∀ (k' : Fin 8) (m' : ℕ) (hm' : m' < 32), k' = k → m' = m →
        p k (ix2 ⟨m, hm⟩ q) = p k' (ix2 ⟨m', hm'⟩ q) := by
      rintro _ _ _ rfl rfl; rfl
    exact e _ _ _ (Fin.ext (by show n.val / 32 = k.val; omega)) (by omega)
  have := n.isLt
  split_ifs
  all_goals first
    | (refine key 0 _ _ ?_; simp; done)
    | (refine key 1 _ _ ?_; simp; omega)
    | (refine key 2 _ _ ?_; simp; omega)
    | (refine key 3 _ _ ?_; simp; omega)
    | (refine key 4 _ _ ?_; simp; omega)
    | (refine key 5 _ _ ?_; simp; omega)
    | (refine key 6 _ _ ?_; simp; omega)
    | (refine key 7 _ _ ?_; simp; omega)

/-- A block read over the reals: code times scale. -/
theorem blk_apply (v : Vec Ideal S32x256 .fp8e5m2) (s : Elt Ideal .f32) (y : S32x256.Idx) :
    blk v s y = (show EReal from v y) * (show EReal from s) := by
  idx_vars y
  unfold blk
  pointwise

/-- A selection on an equality of words. -/
theorem select_eq (x y : BitVec 32) (a b : EReal) : Scalar.select (IntOp.cmpi .eq x y) a b = if x = y then a else b := by
  by_cases h : x = y
  · subst h
    rw [if_pos rfl]
    simp [Scalar.select, IntOp.cmpi]
  · rw [if_neg h]
    have hb : (x == y) = false := beq_eq_false_iff_ne.mpr h
    simp [Scalar.select, IntOp.cmpi, hb]

/-- The selection matrix read over the reals: column `q` stands for word `w + q`. -/
theorem hot_apply (w : BitVec 32) (ids : Vec Ideal S256x128 .i32) (sc : Vec Ideal S256x128 .f32) (n q : Fin 256) :
    (hot w ids sc (ix2 n q) : EReal) = if ids (ix2 n ⟨q.val % 128, by omega⟩) = w + BitVec.ofNat 32 q.val
      then sc (ix2 n ⟨q.val % 128, by omega⟩) else (0 : EReal) := by
  unfold hot half
  pointwise
  have hq := q.isLt
  have e : ∀ (l : ℕ) (hl : l < 128) (L : BitVec 32), q.val % 128 = l → IntOp.addi (Scalar.addi w L) (BitVec.ofNat 32 l) =
        w + BitVec.ofNat 32 q.val →
      Scalar.select (IntOp.cmpi .eq (ids (ix2 n ⟨l, hl⟩)) (IntOp.addi (Scalar.addi w L) (BitVec.ofNat 32 l))) (sc (ix2 n ⟨l, hl⟩)) (0 : EReal)
        = if ids (ix2 n ⟨q.val % 128, by omega⟩) = w + BitVec.ofNat 32 q.val then sc (ix2 n ⟨q.val % 128, by omega⟩) else (0 : EReal) := by
    rintro _ _ L rfl h
    rw [h]
    exact select_eq _ _ _ _
  by_cases h : q.val < 128
  · rw [dif_pos h]
    refine e q.val h 0#32 (by omega) ?_
    show w + 0#32 + BitVec.ofNat 32 q.val = _
    rw [BitVec.add_zero]
  · rw [dif_neg h]
    refine e (q.val - 128) (by omega) 128#32 (by omega) ?_
    show w + BitVec.ofNat 32 128 + BitVec.ofNat 32 (q.val - 128) = _
    rw [BitVec.add_assoc, ← BitVec.ofNat_add]
    congr 2
    omega

/-- The tile read over the reals: the sum over the 256 tokens of activation times gradient, plus the sum over the 256
    embedding rows of the row's value times the selection matrix. -/
theorem tile_apply (a c : BitVec 32) (v : Fin 8 → Vec Ideal S32x256 .fp8e5m2) (s : Fin 8 → Elt Ideal .f32)
    (hx et : Vec Ideal S960x256 .bf16) (ids : Vec Ideal S256x128 .i32) (sc : Vec Ideal S256x128 .f32) (d : Fin 960) (q : Fin 256) :
    (tile a c v s hx et ids sc (ix2 d q) : EReal) =
      (∑ n : Fin 256, (hx (ix2 d n) : EReal) * ((v ⟨n.val / 32, by omega⟩ (ix2 ⟨n.val % 32, by omega⟩ q) : EReal) *
        (s ⟨n.val / 32, by omega⟩ : EReal))) +
      ∑ n : Fin 256, (et (ix2 d n) : EReal) * (if ids (ix2 n ⟨q.val % 128, by omega⟩) = a * 1024#32 + c + BitVec.ofNat 32 q.val
        then sc (ix2 n ⟨q.val % 128, by omega⟩) else (0 : EReal)) := by
  unfold tile
  pointwise
  refine congrArg₂ (· + ·) (Finset.sum_congr rfl fun n _ => ?_) (Finset.sum_congr rfl fun n _ => ?_)
  · rw [stack_apply, blk_apply]
  · rw [hot_apply]
    rfl

end Cert.KernelIdeal.Tile

end
-- ==== Proof.Block.lean ====
/-
  What one grid step writes: the four tiles side by side are one 960 × 1024 block, and the block has a closed form over the
  reals (`OUT`), read off the step's loads.
-/
module

public import proofs.«01_k».proof.Proof.Tile
public import Idealize.ShloMosaic.Lib.Pipeline.ValueKit.Tiles
public import Idealize.ShloMosaic.Lib.Tactic
public import Idealize.ShloMosaic.Lib.Ring

@[expose] public section

set_option maxRecDepth 16384

noncomputable section

open Idealize.ShloMosaic Idealize.ShloMosaic.TcCoe Idealize.SL.Sem

namespace Cert.KernelIdeal.Block

open Cert.KernelIdeal Cert.KernelIdeal.Gen

/-- The scale of token `n`'s gradient codes in the vocabulary chunk of grid step `k`. -/
def scaleAt (x0 : Vec Ideal S2x4x16 .f32) (k : ℕ) (n : Fin 256) : EReal :=
  x0 (ix3 ⟨n.val / 128, by omega⟩ ⟨n.val % 128 / 32, by omega⟩ ⟨k / 3 % 16, by omega⟩)

/-- The block that grid step `k` writes, at row `d` and column `q`: the sum over the tokens of activation times code times
    scale, plus the sum over the embedding rows whose id is the column's word of value times scale. -/
def OUT (k : ℕ) (x0 : Vec Ideal S2x4x16 .f32) (x2 : Vec Ideal S256x1024 .fp8e5m2) (hx et : Vec Ideal S960x256 .bf16)
    (ids : Vec Ideal S256x128 .i32) (sc : Vec Ideal S256x128 .f32) : Vec Ideal S960x1024 .f32 := fun y =>
  (∑ n : Fin 256, (hx (ix2 (y 0) n) : EReal) * ((x2 (ix2 n (y 1)) : EReal) * scaleAt x0 k n)) +
    ∑ n : Fin 256, (et (ix2 (y 0) n) : EReal) *
      (if ids (ix2 n ⟨(y 1).val % 128, by omega⟩) = BitVec.ofNat 32 (1024 * k + (y 1).val)
        then sc (ix2 n ⟨(y 1).val % 128, by omega⟩) else (0 : EReal))

/-- The codes of row block `r` in column tile `j`, as the body loads them. -/
def codes (x2 : Vec Ideal S256x1024 .fp8e5m2) (j : Fin 4) (r : Fin 8) : Vec Ideal S32x256 .fp8e5m2 :=
  View.ld x2 (Rect.unit (s := S256x1024) ![32 * r.val, 256 * j.val] S32x256.size (by
    intro a
    match a with
    | ⟨0, _⟩ => show 32 * r.val + 32 ≤ 256; omega
    | ⟨1, _⟩ => show 256 * j.val + 256 ≤ 1024; omega))

/-- No offset in two dimensions. -/
theorem zero2 : (![0, 0] : Fin 2 → ℕ) = fun _ => 0 := by decide

/-- One element. -/
theorem one_pos : 0 < S1x1x1.numel := by decide

/-- The eight scales, as the body loads them. -/
def scales (x0 : Vec Ideal S2x4x16 .f32) (i : grid0.Coords) : Fin 8 → Elt Ideal .f32 :=
  ![View.ld x0 (Rect.unit (s := S2x4x16) (k0_off1 i) S1x1x1.size (k0_off1_inb i)) (Shape.Idx.first one_pos),
    View.ld x0 (Rect.unit (s := S2x4x16) (k0_off2 i) S1x1x1.size (k0_off2_inb i)) (Shape.Idx.first one_pos),
    View.ld x0 (Rect.unit (s := S2x4x16) (k0_off3 i) S1x1x1.size (k0_off3_inb i)) (Shape.Idx.first one_pos),
    View.ld x0 (Rect.unit (s := S2x4x16) (k0_off4 i) S1x1x1.size (k0_off4_inb i)) (Shape.Idx.first one_pos),
    View.ld x0 (Rect.unit (s := S2x4x16) (k0_off5 i) S1x1x1.size (k0_off5_inb i)) (Shape.Idx.first one_pos),
    View.ld x0 (Rect.unit (s := S2x4x16) (k0_off6 i) S1x1x1.size (k0_off6_inb i)) (Shape.Idx.first one_pos),
    View.ld x0 (Rect.unit (s := S2x4x16) (k0_off7 i) S1x1x1.size (k0_off7_inb i)) (Shape.Idx.first one_pos),
    View.ld x0 (Rect.unit (s := S2x4x16) (k0_off8 i) S1x1x1.size (k0_off8_inb i)) (Shape.Idx.first one_pos)]

/-- The eight offsets are the (batch, row group) pairs in order, at the chunk the step's columns lie in. -/
theorem offs_eq : ∀ i : grid0.Coords, k0_off1 i = ![0, 0, (i 0).val / 3] ∧ k0_off2 i = ![0, 1, (i 0).val / 3] ∧
    k0_off3 i = ![0, 2, (i 0).val / 3] ∧ k0_off4 i = ![0, 3, (i 0).val / 3] ∧ k0_off5 i = ![1, 0, (i 0).val / 3] ∧
    k0_off6 i = ![1, 1, (i 0).val / 3] ∧ k0_off7 i = ![1, 2, (i 0).val / 3] ∧ k0_off8 i = ![1, 3, (i 0).val / 3] := by
  decide +kernel

/-- A scale load at a known offset. -/
theorem ld_scale (x0 : Vec Ideal S2x4x16 .f32) (k : ℕ) (b : Fin 2) (t : Fin 4) (off : Fin 3 → ℕ) (inb)
    (h : off = ![b.val, t.val, k / 3]) (hp) :
    View.ld x0 (Rect.unit (s := S2x4x16) off S1x1x1.size inb) (Shape.Idx.first hp)
      = x0 (ix3 b t ⟨k / 3 % 16, by omega⟩) := by
  subst h
  have hk : k / 3 + 1 ≤ 16 := inb 2
  refine View.ld_unit_apply_of _ _ _ _ _ _ fun a => ?_
  match a with
  | ⟨0, _⟩ => rfl
  | ⟨1, _⟩ => rfl
  | ⟨2, _⟩ => show k / 3 % 16 = k / 3 + 0; omega

/-- Equal batches and equal row groups give the same scale. -/
theorem at_group (x0 : Vec Ideal S2x4x16 .f32) (u : Fin 16) {b b' : Fin 2} {t t' : Fin 4} (hb : b.val = b'.val) (ht : t.val = t'.val) :
    x0 (ix3 b t u) = x0 (ix3 b' t' u) := by
  obtain rfl := Fin.ext hb
  obtain rfl := Fin.ext ht
  rfl

/-- Block `r`'s scale is batch `r / 4`, row group `r % 4`. -/
theorem scales_apply (x0 : Vec Ideal S2x4x16 .f32) (i : grid0.Coords) (r : Fin 8) :
    scales x0 i r = x0 (ix3 ⟨r.val / 4, by omega⟩ ⟨r.val % 4, by omega⟩ ⟨(i 0).val / 3 % 16, by omega⟩) := by
  obtain ⟨h1, h2, h3, h4, h5, h6, h7, h8⟩ := offs_eq i
  match r with
  | ⟨0, _⟩ => exact (ld_scale x0 (i 0).val 0 0 (k0_off1 i) (k0_off1_inb i) h1 one_pos).trans (at_group x0 _ (by simp) (by simp))
  | ⟨1, _⟩ => exact (ld_scale x0 (i 0).val 0 1 (k0_off2 i) (k0_off2_inb i) h2 one_pos).trans (at_group x0 _ (by simp) (by simp))
  | ⟨2, _⟩ => exact (ld_scale x0 (i 0).val 0 2 (k0_off3 i) (k0_off3_inb i) h3 one_pos).trans (at_group x0 _ (by simp) (by simp))
  | ⟨3, _⟩ => exact (ld_scale x0 (i 0).val 0 3 (k0_off4 i) (k0_off4_inb i) h4 one_pos).trans (at_group x0 _ (by simp) (by simp))
  | ⟨4, _⟩ => exact (ld_scale x0 (i 0).val 1 0 (k0_off5 i) (k0_off5_inb i) h5 one_pos).trans (at_group x0 _ (by simp) (by simp))
  | ⟨5, _⟩ => exact (ld_scale x0 (i 0).val 1 1 (k0_off6 i) (k0_off6_inb i) h6 one_pos).trans (at_group x0 _ (by simp) (by simp))
  | ⟨6, _⟩ => exact (ld_scale x0 (i 0).val 1 2 (k0_off7 i) (k0_off7_inb i) h7 one_pos).trans (at_group x0 _ (by simp) (by simp))
  | ⟨7, _⟩ => exact (ld_scale x0 (i 0).val 1 3 (k0_off8 i) (k0_off8_inb i) h8 one_pos).trans (at_group x0 _ (by simp) (by simp))

/-- A tile's element is the block's at the tile's place. -/
theorem tile_eq_OUT (i : grid0.Coords) (j : Fin 4) (c : BitVec 32) (hc : c = BitVec.ofNat 32 (256 * j.val))
    (x0 : Vec Ideal S2x4x16 .f32) (x2 : Vec Ideal S256x1024 .fp8e5m2) (hx et : Vec Ideal S960x256 .bf16)
    (ids : Vec Ideal S256x128 .i32) (sc : Vec Ideal S256x128 .f32) (y : S960x1024.Idx) (x : S960x256.Idx)
    (h : ∀ a, (y a : ℕ) = (![0, 256 * j.val] : Fin 2 → ℕ) a + x a) :
    Tile.tile (BitVec.ofNat 32 (i 0).val) c (codes x2 j) (scales x0 i) hx et ids sc x = OUT (i 0).val x0 x2 hx et ids sc y := by
  obtain ⟨d, q, rfl⟩ : ∃ (d : Fin 960) (q : Fin 256), x = ix2 d q := ⟨x 0, x 1, eq_ix2 x⟩
  obtain ⟨e, p, rfl⟩ : ∃ (e : Fin 960) (p : Fin 1024), y = ix2 e p := ⟨y 0, y 1, eq_ix2 y⟩
  have h0 : e.val = 0 + d.val := h 0
  have h1 : p.val = 256 * j.val + q.val := h 1
  obtain rfl : e = d := Fin.ext (by omega)
  have hp : p = ⟨256 * j.val + q.val, by omega⟩ := Fin.ext h1
  have hm : (⟨q.val % 128, by omega⟩ : Fin 128) = ⟨p.val % 128, by omega⟩ := Fin.ext (by show q.val % 128 = p.val % 128; omega)
  have hw : BitVec.ofNat 32 (i 0).val * 1024#32 + c + BitVec.ofNat 32 q.val = BitVec.ofNat 32 (1024 * (i 0).val + p.val) := by
    rw [hc, h1, ← BitVec.ofNat_mul, ← BitVec.ofNat_add, ← BitVec.ofNat_add]
    congr 1
    omega
  rw [Tile.tile_apply, hw, hm]
  refine congrArg₂ (· + ·) (Finset.sum_congr rfl fun n _ => ?_) rfl
  have e1 : codes x2 j ⟨n.val / 32, by omega⟩ (ix2 ⟨n.val % 32, by omega⟩ q) = x2 (ix2 n p) := by
    refine View.ld_unit_apply_of _ _ _ _ _ _ fun a => ?_
    match a with
    | ⟨0, _⟩ => show n.val = 32 * (n.val / 32) + n.val % 32; omega
    | ⟨1, _⟩ => exact h1
  have e2 : (scales x0 i ⟨n.val / 32, by omega⟩ : EReal) = scaleAt x0 (i 0).val n := by
    rw [scales_apply]
    unfold scaleAt
    congr 1
    refine congrArg₂ (fun a b => ix3 a b _) (Fin.ext ?_) (Fin.ext ?_)
    · show n.val / 32 / 4 = n.val / 128; omega
    · show n.val / 32 % 4 = n.val % 128 / 32; omega
  rw [e1, e2]
  rfl

/-- The four tiles stored side by side are the block. -/
theorem four_tiles (i : grid0.Coords) (x0 : Vec Ideal S2x4x16 .f32) (x2 : Vec Ideal S256x1024 .fp8e5m2)
    (hx et : Vec Ideal S960x256 .bf16) (ids : Vec Ideal S256x128 .i32) (sc : Vec Ideal S256x128 .f32)
    (w0 w1 w2 w3 : Vec Ideal S960x256 .f32) (i0 i1 i2 i3)
    (h0 : w0 = Tile.tile (BitVec.ofNat 32 (i 0).val) 0#32 (codes x2 0) (scales x0 i) hx et ids sc)
    (h1 : w1 = Tile.tile (BitVec.ofNat 32 (i 0).val) 256#32 (codes x2 1) (scales x0 i) hx et ids sc)
    (h2 : w2 = Tile.tile (BitVec.ofNat 32 (i 0).val) 512#32 (codes x2 2) (scales x0 i) hx et ids sc)
    (h3 : w3 = Tile.tile (BitVec.ofNat 32 (i 0).val) 768#32 (codes x2 3) (scales x0 i) hx et ids sc) :
    View.canon (Val := Elt Ideal) (e := .f32) [⟨Rect.unit (s := S960x1024) ![0, 768] S960x256.size i3, w3⟩,
      ⟨Rect.unit (s := S960x1024) ![0, 512] S960x256.size i2, w2⟩,
      ⟨Rect.unit (s := S960x1024) ![0, 256] S960x256.size i1, w1⟩,
      ⟨Rect.unit (s := S960x1024) ![0, 0] S960x256.size i0, w0⟩] = OUT (i 0).val x0 x2 hx et ids sc := by
  subst h0 h1 h2 h3
  funext y
  refine View.canon_eq_of_allAt _ _ _ (View.cover_of_tiledL (s := S960x1024) _ S960x256.size (by sl_kernel_rfl) y) ?_
  exact View.allAt_cons_unit _ _ _ _ _ (fun x hx' => tile_eq_OUT i 3 _ rfl x0 x2 hx et ids sc y x hx')
    (View.allAt_cons_unit _ _ _ _ _ (fun x hx' => tile_eq_OUT i 2 _ rfl x0 x2 hx et ids sc y x hx')
    (View.allAt_cons_unit _ _ _ _ _ (fun x hx' => tile_eq_OUT i 1 _ rfl x0 x2 hx et ids sc y x hx')
    (View.allAt_cons_unit _ _ _ _ _ (fun x hx' => tile_eq_OUT i 0 _ rfl x0 x2 hx et ids sc y x hx')
    (View.allAt_nil _ _))))

end Cert.KernelIdeal.Block

end
-- ==== Proof.Fill.lean ====
/-
  What the first grid step stores into the four scratches, read over the reals: the scaled activations (`HX`), the embedding
  gradients (`ET`), and the token ids and the scales of the embedding gradients, each repeated along 128 lanes (`LANES`).
-/
module

public import proofs.«01_k».proof.Proof.Block

@[expose] public section

set_option maxRecDepth 16384

noncomputable section

open Idealize.ShloMosaic Idealize.ShloMosaic.TcCoe Idealize.SL.Sem

namespace Cert.KernelIdeal.Block

open Cert.KernelIdeal Cert.KernelIdeal.Gen

/-- The activations of token `n` (batch `n / 128`, position `n % 128`) in row `d`: code times the token's scale. -/
def HX (x1 : Vec Ideal S2x4 .f32) (x3 : Vec Ideal S2x960x128 .fp8e4m3) : Vec Ideal S960x256 .bf16 := fun y =>
  (x3 (ix3 ⟨(y 1).val / 128, by have := (y 1).isLt; change (y 1).val < 256 at this; omega⟩ (y 0) ⟨(y 1).val % 128, by omega⟩) : EReal) *
    (x1 (ix2 ⟨(y 1).val / 128, by have := (y 1).isLt; change (y 1).val < 256 at this; omega⟩ ⟨(y 1).val % 128 / 32, by omega⟩) : EReal)

/-- The embedding gradients, as they come. -/
def ET (x4 : Vec Ideal S960x256 .fp8e5m2) : Vec Ideal S960x256 .bf16 := fun y => x4 y

/-- A row of 256 elements stood up as a column and repeated along 128 lanes. -/
def LANES {e : EltTy} (x : Vec Ideal S1x256 e) : Vec Ideal S256x128 e := fun y => x (ix2 0 (y 0))

/-- The lane's row group: lane number over 32. -/
theorem pay2_apply : ∀ l : Fin 128, k0_pay2 (ix2 0 l) = BitVec.ofNat 32 (l.val / 32) := by decide +kernel

/-- The lanes' scales: lane `l` holds scale `l / 32`. -/
theorem pay3_apply (s : Fin 4 → Elt Ideal .f32) (l : Fin 128) :
    k0_pay3 (F := Ideal) (s 0) (s 1) (s 2) (s 3) (ix2 0 l) = s ⟨l.val / 32, by omega⟩ := by
  unfold k0_pay3
  pointwise
  rw [pay2_apply]
  simp only [Tile.select_eq]
  obtain ⟨k, hk⟩ : ∃ k : Fin 4, k = ⟨l.val / 32, by omega⟩ := ⟨_, rfl⟩
  have hv : l.val / 32 = k.val := by rw [hk]
  rw [← hk, hv]
  fin_cases k <;> rfl

/-- Half of the scaled activations. -/
theorem pay4_apply (w : FVec Ideal S1x128 .f32) (v : Vec Ideal S1x960x128 .fp8e4m3) (d : Fin 960) (l : Fin 128) :
    k0_pay4 w v (ix2 d l) = (v (ix3 0 d l) : EReal) * (w (ix2 0 l) : EReal) := by
  unfold k0_pay4
  pointwise

/-- The second half is the same function of its loads. -/
theorem pay5_eq (a b c d : Elt Ideal .f32) (v : Vec Ideal S1x960x128 .fp8e4m3) :
    k0_pay5 k0_pay2 a b c d v = k0_pay4 (k0_pay3 a b c d) v := rfl

/-- The embedding gradients are stored as they come. -/
theorem pay6_eq (v : Vec Ideal S960x256 .fp8e5m2) : k0_pay6 v = ET v := by
  funext y
  obtain ⟨d, n, rfl⟩ : ∃ (d : Fin 960) (n : Fin 256), y = ix2 d n := ⟨y 0, y 1, eq_ix2 y⟩
  unfold k0_pay6
  pointwise
  rfl

/-- The ids are stood up and repeated. -/
theorem pay7_eq (v : Vec Ideal S1x256 .i32) : k0_pay7 v = LANES v := by
  funext y
  obtain ⟨n, l, rfl⟩ : ∃ (n : Fin 256) (l : Fin 128), y = ix2 n l := ⟨y 0, y 1, eq_ix2 y⟩
  unfold k0_pay7
  pointwise
  by_cases h : n.val < 128
  · rw [dif_pos h]
    rfl
  · rw [dif_neg h]
    exact congrArg v (congrArg (ix2 0) (Fin.ext (by show 128 + (n.val - 128) = n.val; omega)))

/-- The scales are stood up and repeated. -/
theorem pay8_eq (v : Vec Ideal S1x256 .f32) : k0_pay8 v = LANES v := by
  funext y
  obtain ⟨n, l, rfl⟩ : ∃ (n : Fin 256) (l : Fin 128), y = ix2 n l := ⟨y 0, y 1, eq_ix2 y⟩
  unfold k0_pay8
  pointwise
  by_cases h : n.val < 128
  · rw [dif_pos h]
    rfl
  · rw [dif_neg h]
    exact congrArg v (congrArg (ix2 0) (Fin.ext (by show 128 + (n.val - 128) = n.val; omega)))

/-- The two halves stored side by side are the scaled activations. -/
theorem two_halves (x1 : Vec Ideal S2x4 .f32) (x3 : Vec Ideal S2x960x128 .fp8e4m3) (w0 w1 : Vec Ideal S960x128 .bf16) (i0 i1)
    (h0 : ∀ d l, (w0 (ix2 d l) : EReal) = (x3 (ix3 0 d l) : EReal) * (x1 (ix2 0 ⟨l.val / 32, by omega⟩) : EReal))
    (h1 : ∀ d l, (w1 (ix2 d l) : EReal) = (x3 (ix3 1 d l) : EReal) * (x1 (ix2 1 ⟨l.val / 32, by omega⟩) : EReal)) :
    View.canon (Val := Elt Ideal) (e := .bf16) [⟨Rect.unit (s := S960x256) ![0, 128] S960x128.size i1, w1⟩,
      ⟨Rect.unit (s := S960x256) ![0, 0] S960x128.size i0, w0⟩] = HX x1 x3 := by
  funext y
  obtain ⟨e, n, rfl⟩ : ∃ (e : Fin 960) (n : Fin 256), y = ix2 e n := ⟨y 0, y 1, eq_ix2 y⟩
  have key : ∀ (b : Fin 2) (w : Vec Ideal S960x128 .bf16)
      (_ : ∀ d l, (w (ix2 d l) : EReal) = (x3 (ix3 b d l) : EReal) * (x1 (ix2 b ⟨l.val / 32, by omega⟩) : EReal))
      (x : S960x128.Idx) (_ : ∀ a, ((ix2 e n) a : ℕ) = (![0, 128 * b.val] : Fin 2 → ℕ) a + x a), w x = HX x1 x3 (ix2 e n) := by
    intro b w hw x hx
    obtain ⟨d, l, rfl⟩ : ∃ (d : Fin 960) (l : Fin 128), x = ix2 d l := ⟨x 0, x 1, eq_ix2 x⟩
    have e0 : e.val = 0 + d.val := hx 0
    have e1 : n.val = 128 * b.val + l.val := hx 1
    obtain rfl : e = d := Fin.ext (by omega)
    have eb : (⟨n.val / 128, by omega⟩ : Fin 2) = b := Fin.ext (by show n.val / 128 = b.val; omega)
    have el : (⟨n.val % 128, by omega⟩ : Fin 128) = l := Fin.ext (by show n.val % 128 = l.val; omega)
    have eg : (⟨n.val % 128 / 32, by omega⟩ : Fin 4) = ⟨l.val / 32, by omega⟩ := Fin.ext (by show n.val % 128 / 32 = l.val / 32; omega)
    refine (hw _ _).trans ?_
    show _ = (x3 (ix3 ⟨n.val / 128, _⟩ e ⟨n.val % 128, _⟩) : EReal) * (x1 (ix2 ⟨n.val / 128, _⟩ ⟨n.val % 128 / 32, _⟩) : EReal)
    rw [eb, el, eg]
  refine View.canon_eq_of_allAt _ _ _ (View.cover_of_tiledL (s := S960x256) _ S960x128.size (by sl_kernel_rfl) _) ?_
  exact View.allAt_cons_unit _ _ _ _ _ (fun x hx => key 1 w1 h1 x hx)
    (View.allAt_cons_unit _ _ _ _ _ (fun x hx => key 0 w0 h0 x hx) (View.allAt_nil _ _))

/-- Stored from a whole load, the embedding gradients. -/
theorem fill6 (x4 : Vec Ideal S960x256 .fp8e5m2) (inb) :
    k0_pay6 (View.ld x4 (Rect.unit (s := S960x256) ![0, 0] S960x256.size inb)) = ET x4 := by
  rw [View.ld_unit_zero (S := S960x256) zero2, pay6_eq]

/-- Stored from a whole load, the ids. -/
theorem fill7 (x6 : Vec Ideal S1x256 .i32) (inb) :
    k0_pay7 (View.ld x6 (Rect.unit (s := S1x256) ![0, 0] S1x256.size inb)) = LANES x6 := by
  rw [View.ld_unit_zero (S := S1x256) zero2, pay7_eq]

/-- Stored from a whole load, the scales of the embedding gradients. -/
theorem fill8 (x5 : Vec Ideal S1x256 .f32) (inb) :
    k0_pay8 (View.ld x5 (Rect.unit (s := S1x256) ![0, 0] S1x256.size inb)) = LANES x5 := by
  rw [View.ld_unit_zero (S := S1x256) zero2, pay8_eq]

/-- Equal scratches give equal blocks. -/
theorem OUT_congr (k : ℕ) (x0 : Vec Ideal S2x4x16 .f32) (x2 : Vec Ideal S256x1024 .fp8e5m2) {hx hx' et et' : Vec Ideal S960x256 .bf16}
    {ids ids' : Vec Ideal S256x128 .i32} {sc sc' : Vec Ideal S256x128 .f32} (h0 : hx = hx') (h1 : et = et') (h2 : ids = ids')
    (h3 : sc = sc') : OUT k x0 x2 hx et ids sc = OUT k x0 x2 hx' et' ids' sc' := by
  subst h0 h1 h2 h3
  rfl

/-- A load of one activation scale. -/
theorem ld_x1 (x1 : Vec Ideal S2x4 .f32) (b : Fin 2) (t : Fin 4) (off : Fin 2 → ℕ) (inb) (h : off = ![b.val, t.val]) (hp) :
    View.ld x1 (Rect.unit (s := S2x4) off S1x1.size inb) (Shape.Idx.first hp) = x1 (ix2 b t) := by
  subst h
  refine View.ld_unit_apply_of _ _ _ _ _ _ fun a => ?_
  match a with
  | ⟨0, _⟩ => rfl
  | ⟨1, _⟩ => rfl

/-- A load of one batch of activation codes. -/
theorem ld_x3 (x3 : Vec Ideal S2x960x128 .fp8e4m3) (b : Fin 2) (off : Fin 3 → ℕ) (inb) (h : off = ![b.val, 0, 0]) (d : Fin 960) (l : Fin 128) :
    View.ld x3 (Rect.unit (s := S2x960x128) off S1x960x128.size inb) (ix3 0 d l) = x3 (ix3 b d l) := by
  subst h
  refine View.ld_unit_apply_of _ _ _ _ _ _ fun a => ?_
  match a with
  | ⟨0, _⟩ => rfl
  | ⟨1, _⟩ => exact (Nat.zero_add _).symm
  | ⟨2, _⟩ => exact (Nat.zero_add _).symm

/-- Half `b` of the scaled activations, of the loads of batch `b`. -/
theorem half_apply (x1 : Vec Ideal S2x4 .f32) (x3 : Vec Ideal S2x960x128 .fp8e4m3) (b : Fin 2) (s0 s1 s2 s3 : Elt Ideal .f32)
    (v : Vec Ideal S1x960x128 .fp8e4m3) (h0 : s0 = x1 (ix2 b 0)) (h1 : s1 = x1 (ix2 b 1)) (h2 : s2 = x1 (ix2 b 2))
    (h3 : s3 = x1 (ix2 b 3)) (hv : ∀ d l, v (ix3 0 d l) = x3 (ix3 b d l)) (d : Fin 960) (l : Fin 128) :
    (k0_pay4 (k0_pay3 s0 s1 s2 s3) v (ix2 d l) : EReal) = (x3 (ix3 b d l) : EReal) * (x1 (ix2 b ⟨l.val / 32, by omega⟩) : EReal) := by
  subst h0 h1 h2 h3
  rw [pay4_apply, hv, pay3_apply (fun t => x1 (ix2 b t))]

/-- A scratch of two side-by-side stores, read back whole. -/
theorem readCov_two {sg : RefSig} {κ : Kind} {sp : Space} (v : View sg κ sp S960x256 .bf16) (w0 w1 : Vec Ideal S960x128 .bf16) (i0 i1 inb) :
    v.readCov (Val := Elt Ideal) [⟨Rect.unit (s := S960x256) ![0, 128] S960x128.size i1, w1⟩,
      ⟨Rect.unit (s := S960x256) ![0, 0] S960x128.size i0, w0⟩] (Rect.unit (s := S960x256) ![0, 0] S960x256.size inb).toLoadRect
    = View.canon (Val := Elt Ideal) (e := .bf16) [⟨Rect.unit (s := S960x256) ![0, 128] S960x128.size i1, w1⟩,
      ⟨Rect.unit (s := S960x256) ![0, 0] S960x128.size i0, w0⟩] := by
  rw [View.readCov_eq_canon_ld _ _ _ (fun y => View.cover_of_tiledL (s := S960x256) _ S960x128.size (by sl_kernel_rfl) y)]
  exact View.ld_unit_zero (S := S960x256) zero2 _ _

end Cert.KernelIdeal.Block

end
-- ==== Proof.OutA.lean ====
/-
  The first grid step: what it stores into the four scratches, and that its output block is the closed form `OUT` of what
  it stored.
-/
module

public import proofs.«01_k».proof.Proof.Fill
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem

namespace Cert.KernelIdeal.Block

open Cert.KernelIdeal Cert.KernelIdeal.Gen

/-- The first step fills scratch 0 with the scaled activations. -/
theorem sout_A_0 (c : Dev nD) (i : grid0.Coords) (arg2 : Memref sig .tc .smem S2x4x16 .f32) (harg2 : arg2.IsWhole) (arg3 : Memref sig .tc .smem S2x4 .f32) (harg3 : arg3.IsWhole) (arg4 : Memref sig .tc .vmem S256x1024 .fp8e5m2) (harg4 : arg4.IsWhole) (arg5 : Memref sig .tc .vmem S2x960x128 .fp8e4m3) (harg5 : arg5.IsWhole) (arg6 : Memref sig .tc .vmem S960x256 .fp8e5m2) (harg6 : arg6.IsWhole) (arg7 : Memref sig .tc .vmem S1x256 .f32) (harg7 : arg7.IsWhole) (arg8 : Memref sig .tc .vmem S1x256 .i32) (harg8 : arg8.IsWhole) (arg9 : Memref sig .tc .vmem S960x1024 .f32) (harg9 : arg9.IsWhole) (arg10 : Memref sig .tc .vmem S960x256 .bf16) (harg10 : arg10.IsWhole) (arg11 : Memref sig .tc .vmem S960x256 .bf16) (harg11 : arg11.IsWhole) (arg12 : Memref sig .tc .vmem S256x128 .i32) (harg12 : arg12.IsWhole) (arg13 : Memref sig .tc .vmem S256x128 .f32) (harg13 : arg13.IsWhole) (hc0 : cond0_0 i)
    (x0 : Vec Ideal S2x4x16 .f32) (x1 : Vec Ideal S2x4 .f32) (x2 : Vec Ideal S256x1024 .fp8e5m2) (x3 : Vec Ideal S2x960x128 .fp8e4m3) (x4 : Vec Ideal S960x256 .fp8e5m2) (x5 : Vec Ideal S1x256 .f32) (x6 : Vec Ideal S1x256 .i32) (xt0 : TbBuf0 (F := Ideal) c tbM0_0) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0 = HX x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0)]
  unfold kernelRun0_A
  dsimp only
  sl_unfold_run_names
  simp only [View.readAt_eq_ld, harg2.read_unread, harg3.read_unread, harg4.read_unread, harg5.read_unread, harg6.read_unread, harg7.read_unread, harg8.read_unread, harg10.read_unread, harg11.read_unread, harg12.read_unread, harg13.read_unread]
  exact two_halves x1 x3 _ _ _ _ (fun d l => half_apply x1 x3 0 _ _ _ _ _ (ld_x1 x1 0 0 _ _ rfl _) (ld_x1 x1 0 1 _ _ rfl _) (ld_x1 x1 0 2 _ _ rfl _)
    (ld_x1 x1 0 3 _ _ rfl _) (ld_x3 x3 0 _ _ rfl) d l)
    (fun d l => half_apply x1 x3 1 _ _ _ _ _ (ld_x1 x1 1 0 _ _ rfl _) (ld_x1 x1 1 1 _ _ rfl _) (ld_x1 x1 1 2 _ _ rfl _)
    (ld_x1 x1 1 3 _ _ rfl _) (ld_x3 x3 1 _ _ rfl) d l)

/-- The first step fills scratch 1 with the embedding gradients. -/
theorem sout_A_1 (c : Dev nD) (i : grid0.Coords) (arg2 : Memref sig .tc .smem S2x4x16 .f32) (harg2 : arg2.IsWhole) (arg3 : Memref sig .tc .smem S2x4 .f32) (harg3 : arg3.IsWhole) (arg4 : Memref sig .tc .vmem S256x1024 .fp8e5m2) (harg4 : arg4.IsWhole) (arg5 : Memref sig .tc .vmem S2x960x128 .fp8e4m3) (harg5 : arg5.IsWhole) (arg6 : Memref sig .tc .vmem S960x256 .fp8e5m2) (harg6 : arg6.IsWhole) (arg7 : Memref sig .tc .vmem S1x256 .f32) (harg7 : arg7.IsWhole) (arg8 : Memref sig .tc .vmem S1x256 .i32) (harg8 : arg8.IsWhole) (arg9 : Memref sig .tc .vmem S960x1024 .f32) (harg9 : arg9.IsWhole) (arg10 : Memref sig .tc .vmem S960x256 .bf16) (harg10 : arg10.IsWhole) (arg11 : Memref sig .tc .vmem S960x256 .bf16) (harg11 : arg11.IsWhole) (arg12 : Memref sig .tc .vmem S256x128 .i32) (harg12 : arg12.IsWhole) (arg13 : Memref sig .tc .vmem S256x128 .f32) (harg13 : arg13.IsWhole) (hc0 : cond0_0 i)
    (x0 : Vec Ideal S2x4x16 .f32) (x1 : Vec Ideal S2x4 .f32) (x2 : Vec Ideal S256x1024 .fp8e5m2) (x3 : Vec Ideal S2x960x128 .fp8e4m3) (x4 : Vec Ideal S960x256 .fp8e5m2) (x5 : Vec Ideal S1x256 .f32) (x6 : Vec Ideal S1x256 .i32) (xt0 : TbBuf0 (F := Ideal) c tbM0_0) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0 = ET x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0)]
  unfold kernelRun0_A
  dsimp only
  sl_unfold_run_names
  simp only [View.readAt_eq_ld, harg2.read_unread, harg3.read_unread, harg4.read_unread, harg5.read_unread, harg6.read_unread, harg7.read_unread, harg8.read_unread, harg10.read_unread, harg11.read_unread, harg12.read_unread, harg13.read_unread]
  exact (View.canon_unit_zero (S := S960x256) zero2 _ _).trans (fill6 x4 _)

/-- The first step fills scratch 2 with the token ids. -/
theorem sout_A_2 (c : Dev nD) (i : grid0.Coords) (arg2 : Memref sig .tc .smem S2x4x16 .f32) (harg2 : arg2.IsWhole) (arg3 : Memref sig .tc .smem S2x4 .f32) (harg3 : arg3.IsWhole) (arg4 : Memref sig .tc .vmem S256x1024 .fp8e5m2) (harg4 : arg4.IsWhole) (arg5 : Memref sig .tc .vmem S2x960x128 .fp8e4m3) (harg5 : arg5.IsWhole) (arg6 : Memref sig .tc .vmem S960x256 .fp8e5m2) (harg6 : arg6.IsWhole) (arg7 : Memref sig .tc .vmem S1x256 .f32) (harg7 : arg7.IsWhole) (arg8 : Memref sig .tc .vmem S1x256 .i32) (harg8 : arg8.IsWhole) (arg9 : Memref sig .tc .vmem S960x1024 .f32) (harg9 : arg9.IsWhole) (arg10 : Memref sig .tc .vmem S960x256 .bf16) (harg10 : arg10.IsWhole) (arg11 : Memref sig .tc .vmem S960x256 .bf16) (harg11 : arg11.IsWhole) (arg12 : Memref sig .tc .vmem S256x128 .i32) (harg12 : arg12.IsWhole) (arg13 : Memref sig .tc .vmem S256x128 .f32) (harg13 : arg13.IsWhole) (hc0 : cond0_0 i)
    (x0 : Vec Ideal S2x4x16 .f32) (x1 : Vec Ideal S2x4 .f32) (x2 : Vec Ideal S256x1024 .fp8e5m2) (x3 : Vec Ideal S2x960x128 .fp8e4m3) (x4 : Vec Ideal S960x256 .fp8e5m2) (x5 : Vec Ideal S1x256 .f32) (x6 : Vec Ideal S1x256 .i32) (xt0 : TbBuf0 (F := Ideal) c tbM0_0) :
    sout0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0 = LANES x6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0)]
  unfold kernelRun0_A
  dsimp only
  sl_unfold_run_names
  simp only [View.readAt_eq_ld, harg2.read_unread, harg3.read_unread, harg4.read_unread, harg5.read_unread, harg6.read_unread, harg7.read_unread, harg8.read_unread, harg10.read_unread, harg11.read_unread, harg12.read_unread, harg13.read_unread]
  exact (View.canon_unit_zero (S := S256x128) zero2 _ _).trans (fill7 x6 _)

/-- The first step fills scratch 3 with the scales of the embedding gradients. -/
theorem sout_A_3 (c : Dev nD) (i : grid0.Coords) (arg2 : Memref sig .tc .smem S2x4x16 .f32) (harg2 : arg2.IsWhole) (arg3 : Memref sig .tc .smem S2x4 .f32) (harg3 : arg3.IsWhole) (arg4 : Memref sig .tc .vmem S256x1024 .fp8e5m2) (harg4 : arg4.IsWhole) (arg5 : Memref sig .tc .vmem S2x960x128 .fp8e4m3) (harg5 : arg5.IsWhole) (arg6 : Memref sig .tc .vmem S960x256 .fp8e5m2) (harg6 : arg6.IsWhole) (arg7 : Memref sig .tc .vmem S1x256 .f32) (harg7 : arg7.IsWhole) (arg8 : Memref sig .tc .vmem S1x256 .i32) (harg8 : arg8.IsWhole) (arg9 : Memref sig .tc .vmem S960x1024 .f32) (harg9 : arg9.IsWhole) (arg10 : Memref sig .tc .vmem S960x256 .bf16) (harg10 : arg10.IsWhole) (arg11 : Memref sig .tc .vmem S960x256 .bf16) (harg11 : arg11.IsWhole) (arg12 : Memref sig .tc .vmem S256x128 .i32) (harg12 : arg12.IsWhole) (arg13 : Memref sig .tc .vmem S256x128 .f32) (harg13 : arg13.IsWhole) (hc0 : cond0_0 i)
    (x0 : Vec Ideal S2x4x16 .f32) (x1 : Vec Ideal S2x4 .f32) (x2 : Vec Ideal S256x1024 .fp8e5m2) (x3 : Vec Ideal S2x960x128 .fp8e4m3) (x4 : Vec Ideal S960x256 .fp8e5m2) (x5 : Vec Ideal S1x256 .f32) (x6 : Vec Ideal S1x256 .i32) (xt0 : TbBuf0 (F := Ideal) c tbM0_0) :
    sout0_A_3 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0 = LANES x5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0)]
  unfold kernelRun0_A
  dsimp only
  sl_unfold_run_names
  simp only [View.readAt_eq_ld, harg2.read_unread, harg3.read_unread, harg4.read_unread, harg5.read_unread, harg6.read_unread, harg7.read_unread, harg8.read_unread, harg10.read_unread, harg11.read_unread, harg12.read_unread, harg13.read_unread]
  exact (View.canon_unit_zero (S := S256x128) zero2 _ _).trans (fill8 x5 _)

/-- The output block after the first step. -/
theorem out_A (c : Dev nD) (i : grid0.Coords) (arg2 : Memref sig .tc .smem S2x4x16 .f32) (harg2 : arg2.IsWhole) (arg3 : Memref sig .tc .smem S2x4 .f32) (harg3 : arg3.IsWhole) (arg4 : Memref sig .tc .vmem S256x1024 .fp8e5m2) (harg4 : arg4.IsWhole) (arg5 : Memref sig .tc .vmem S2x960x128 .fp8e4m3) (harg5 : arg5.IsWhole) (arg6 : Memref sig .tc .vmem S960x256 .fp8e5m2) (harg6 : arg6.IsWhole) (arg7 : Memref sig .tc .vmem S1x256 .f32) (harg7 : arg7.IsWhole) (arg8 : Memref sig .tc .vmem S1x256 .i32) (harg8 : arg8.IsWhole) (arg9 : Memref sig .tc .vmem S960x1024 .f32) (harg9 : arg9.IsWhole) (arg10 : Memref sig .tc .vmem S960x256 .bf16) (harg10 : arg10.IsWhole) (arg11 : Memref sig .tc .vmem S960x256 .bf16) (harg11 : arg11.IsWhole) (arg12 : Memref sig .tc .vmem S256x128 .i32) (harg12 : arg12.IsWhole) (arg13 : Memref sig .tc .vmem S256x128 .f32) (harg13 : arg13.IsWhole) (hc0 : cond0_0 i)
    (x0 : Vec Ideal S2x4x16 .f32) (x1 : Vec Ideal S2x4 .f32) (x2 : Vec Ideal S256x1024 .fp8e5m2) (x3 : Vec Ideal S2x960x128 .fp8e4m3) (x4 : Vec Ideal S960x256 .fp8e5m2) (x5 : Vec Ideal S1x256 .f32) (x6 : Vec Ideal S1x256 .i32) (xt0 : TbBuf0 (F := Ideal) c tbM0_0) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0 = OUT (i 0).val x0 x2 (HX x1 x3) (ET x4) (LANES x6) (LANES x5) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0)]
  unfold kernelRun0_A
  dsimp only
  sl_unfold_run_names
  simp only [View.readAt_eq_ld, harg2.read_unread, harg3.read_unread, harg4.read_unread, harg5.read_unread, harg6.read_unread, harg7.read_unread, harg8.read_unread, harg10.read_unread, harg11.read_unread, harg12.read_unread, harg13.read_unread]
  refine (four_tiles i x0 x2 _ _ _ _ _ _ _ _ _ _ _ _ rfl rfl rfl rfl).trans ?_
  refine OUT_congr _ _ _ ?_ ((View.readCov_unit_zero (S := S960x256) _ zero2 _ _).trans (fill6 x4 _))
    ((View.readCov_unit_zero (S := S256x128) _ zero2 _ _).trans (fill7 x6 _))
    ((View.readCov_unit_zero (S := S256x128) _ zero2 _ _).trans (fill8 x5 _))
  exact (readCov_two _ _ _ _ _ _).trans (two_halves x1 x3 _ _ _ _ (fun d l => half_apply x1 x3 0 _ _ _ _ _ (ld_x1 x1 0 0 _ _ rfl _) (ld_x1 x1 0 1 _ _ rfl _) (ld_x1 x1 0 2 _ _ rfl _)
    (ld_x1 x1 0 3 _ _ rfl _) (ld_x3 x3 0 _ _ rfl) d l)
    (fun d l => half_apply x1 x3 1 _ _ _ _ _ (ld_x1 x1 1 0 _ _ rfl _) (ld_x1 x1 1 1 _ _ rfl _) (ld_x1 x1 1 2 _ _ rfl _)
    (ld_x1 x1 1 3 _ _ rfl _) (ld_x3 x3 1 _ _ rfl) d l))

end Cert.KernelIdeal.Block

end
-- ==== Proof.OutB.lean ====
/-
  A step after the first leaves, in its output block, the closed form `OUT` of its loads and of what the four scratches hold.
-/
module

public import proofs.«01_k».proof.Proof.Block
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem

namespace Cert.KernelIdeal.Block

open Cert.KernelIdeal Cert.KernelIdeal.Gen

/-- The output block after a step past the first. -/
theorem out_B (c : Dev nD) (i : grid0.Coords) (arg2 : Memref sig .tc .smem S2x4x16 .f32) (harg2 : arg2.IsWhole) (arg3 : Memref sig .tc .smem S2x4 .f32) (harg3 : arg3.IsWhole) (arg4 : Memref sig .tc .vmem S256x1024 .fp8e5m2) (harg4 : arg4.IsWhole) (arg5 : Memref sig .tc .vmem S2x960x128 .fp8e4m3) (harg5 : arg5.IsWhole) (arg6 : Memref sig .tc .vmem S960x256 .fp8e5m2) (harg6 : arg6.IsWhole) (arg7 : Memref sig .tc .vmem S1x256 .f32) (harg7 : arg7.IsWhole) (arg8 : Memref sig .tc .vmem S1x256 .i32) (harg8 : arg8.IsWhole) (arg9 : Memref sig .tc .vmem S960x1024 .f32) (harg9 : arg9.IsWhole) (arg10 : Memref sig .tc .vmem S960x256 .bf16) (harg10 : arg10.IsWhole) (arg11 : Memref sig .tc .vmem S960x256 .bf16) (harg11 : arg11.IsWhole) (arg12 : Memref sig .tc .vmem S256x128 .i32) (harg12 : arg12.IsWhole) (arg13 : Memref sig .tc .vmem S256x128 .f32) (harg13 : arg13.IsWhole) (hc0 : ¬cond0_0 i)
    (x0 : Vec Ideal S2x4x16 .f32) (x1 : Vec Ideal S2x4 .f32) (x2 : Vec Ideal S256x1024 .fp8e5m2) (x3 : Vec Ideal S2x960x128 .fp8e4m3) (x4 : Vec Ideal S960x256 .fp8e5m2) (x5 : Vec Ideal S1x256 .f32) (x6 : Vec Ideal S1x256 .i32) (xt0 : TbBuf0 (F := Ideal) c tbM0_0) (xs0 : Vec Ideal S960x256 .bf16) (xs1 : Vec Ideal S960x256 .bf16) (xs2 : Vec Ideal S256x128 .i32) (xs3 : Vec Ideal S256x128 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0 xs0 xs1 xs2 xs3 =
      OUT (i 0).val x0 x2 xs0 xs1 xs2 xs3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xt0 xs0 xs1 xs2 xs3)]
  unfold kernelRun0_B
  dsimp only
  sl_unfold_run_names
  simp only [View.readAt_eq_ld, harg2.read_unread, harg3.read_unread, harg4.read_unread, harg5.read_unread, harg6.read_unread, harg7.read_unread, harg8.read_unread, harg10.read_unread, harg11.read_unread, harg12.read_unread, harg13.read_unread]
  refine (four_tiles i x0 x2 (View.ld xs0 (Rect.unit (s := S960x256) ![0, 0] S960x256.size inb_S960x256_S960x256_0_0))
    (View.ld xs1 (Rect.unit (s := S960x256) ![0, 0] S960x256.size inb_S960x256_S960x256_0_0))
    (View.ld xs2 (Rect.unit (s := S256x128) ![0, 0] S256x128.size inb_S256x128_S256x128_0_0))
    (View.ld xs3 (Rect.unit (s := S256x128) ![0, 0] S256x128.size inb_S256x128_S256x128_0_0))
    _ _ _ _ _ _ _ _ rfl rfl rfl rfl).trans ?_
  rw [View.ld_unit_zero (S := S960x256) zero2, View.ld_unit_zero (S := S960x256) zero2, View.ld_unit_zero (S := S256x128) zero2,
    View.ld_unit_zero (S := S256x128) zero2]

end Cert.KernelIdeal.Block

end
-- ==== Proof.Sweep.lean ====
/-
  What the output block and the four scratches hold after each grid point: the scratches hold from the first point on what it
  stored, and point `n` leaves the block `OUT n` of them.
-/
module

public import proofs.«01_k».proof.Proof.OutA
public import proofs.«01_k».proof.Proof.OutB

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

/-- A read at indices that move nothing is the contents. -/
theorem read_whole {s : Shape} {α : Type} (b : s.Idx → α) (emb : s.Idx → s.Idx) (idx : Fin s.rank → ℕ)
    (h : ∀ y a, (emb y a).val = idx a * s.size a + 1 * (y a).val) (h0 : ∀ a, idx a = 0) : (fun y => b (emb y)) = b := by
  funext y
  refine congrArg b (funext fun a => Fin.ext ?_)
  rw [h, h0]
  omega

/-- The grid's one coordinate is the point's number. -/
theorem coords_val : ∀ t : Fin grid0.N, (grid0.coords t 0).val = t.val := by decide +kernel

/-- The codes' and the output's blocks are numbered by the point. -/
theorem idx2 : ∀ i : grid0.Coords, cc0_transform_2 i 0 = 0 ∧ cc0_transform_2 i 1 = (i 0).val := by decide +kernel
theorem idx7 : ∀ i : grid0.Coords, cc0_transform_7 i 0 = 0 ∧ cc0_transform_7 i 1 = (i 0).val := by decide +kernel

/-- The other operands have one block. -/
theorem idx0 : ∀ (i : grid0.Coords) (a : Fin 3), cc0_transform_0 i a = 0 := by decide +kernel
theorem idx1 : ∀ (i : grid0.Coords) (a : Fin 2), cc0_transform_1 i a = 0 := by decide +kernel
theorem idx3 : ∀ (i : grid0.Coords) (a : Fin 3), cc0_transform_3 i a = 0 := by decide +kernel
theorem idx4 : ∀ (i : grid0.Coords) (a : Fin 2), cc0_transform_4 i a = 0 := by decide +kernel
theorem idx5 : ∀ (i : grid0.Coords) (a : Fin 2), cc0_transform_5 i a = 0 := by decide +kernel
theorem idx6 : ∀ (i : grid0.Coords) (a : Fin 2), cc0_transform_6 i a = 0 := by decide +kernel

variable (m : (ℓ : Loc nD τ sig) → Buf (Elt Ideal) ℓ) (hO : Ok m) (c : Dev nD)

/-- The operands as the region finds them: the gradient scales, the activation scales, the codes, the activation codes, the
    embedding gradients, their scales and the ids. -/
abbrev X0 : Vec Ideal S2x4x16 .f32 := V m c main_arg1
abbrev X1 : Vec Ideal S2x4 .f32 := V m c main_arg3
abbrev X2 : Vec Ideal S256x49152 .fp8e5m2 := V m c main_v0
abbrev X3 : Vec Ideal S2x960x128 .fp8e4m3 := V m c main_v1
abbrev X4 : Vec Ideal S960x256 .fp8e5m2 := V m c main_v2
abbrev X5 : Vec Ideal S1x256 .f32 := V m c main_v3
abbrev X6 : Vec Ideal S1x256 .i32 := V m c main_v4

theorem iblk0 (t : Fin (cfgM m hO).N) : iblk m hO c 0 t = X0 m c :=
  read_whole (s := S2x4x16) (X0 m c) (((cfgM m hO).win 0).blk t).view.emb _ (fun _ _ => rfl) (idx0 (grid0.coords t))
theorem iblk1 (t : Fin (cfgM m hO).N) : iblk m hO c 1 t = X1 m c :=
  read_whole (s := S2x4) (X1 m c) (((cfgM m hO).win 1).blk t).view.emb _ (fun _ _ => rfl) (idx1 (grid0.coords t))
theorem iblk3 (t : Fin (cfgM m hO).N) : iblk m hO c 3 t = X3 m c :=
  read_whole (s := S2x960x128) (X3 m c) (((cfgM m hO).win 3).blk t).view.emb _ (fun _ _ => rfl) (idx3 (grid0.coords t))
theorem iblk4 (t : Fin (cfgM m hO).N) : iblk m hO c 4 t = X4 m c :=
  read_whole (s := S960x256) (X4 m c) (((cfgM m hO).win 4).blk t).view.emb _ (fun _ _ => rfl) (idx4 (grid0.coords t))
theorem iblk5 (t : Fin (cfgM m hO).N) : iblk m hO c 5 t = X5 m c :=
  read_whole (s := S1x256) (X5 m c) (((cfgM m hO).win 5).blk t).view.emb _ (fun _ _ => rfl) (idx5 (grid0.coords t))
theorem iblk6 (t : Fin (cfgM m hO).N) : iblk m hO c 6 t = X6 m c :=
  read_whole (s := S1x256) (X6 m c) (((cfgM m hO).win 6).blk t).view.emb _ (fun _ _ => rfl) (idx6 (grid0.coords t))

/-- Column block `k` of the codes. -/
def CODES (k : ℕ) : Vec Ideal S256x1024 .fp8e5m2 := fun y =>
  X2 m c (ix2 (y 0) ⟨(1024 * k + (y 1).val) % 49152, Nat.mod_lt _ (by decide)⟩)

theorem iblk2 (t : Fin (cfgM m hO).N) : iblk m hO c 2 t = CODES m c t.val := by
  refine funext fun (y : S256x1024.Idx) => ?_
  refine congrArg (X2 m c) (funext fun a => Fin.ext ?_)
  have ht : t.val < 48 := lt_of_lt_of_eq t.isLt N_0
  have h := idx2 (grid0.coords t)
  have hc := coords_val t
  match a with
  | ⟨0, _⟩ =>
    show cc0_transform_2 (grid0.coords t) 0 * 256 + 1 * (y 0).val = (y 0).val
    rw [h.1]; omega
  | ⟨1, _⟩ =>
    have hy : (y 1).val < 1024 := (y 1).isLt
    show cc0_transform_2 (grid0.coords t) 1 * 1024 + 1 * (y 1).val = (1024 * t.val + (y 1).val) % 49152
    rw [h.2, hc]; omega

/-- Equal operands give equal blocks. -/
theorem OUT_ext {k k' : ℕ} {x0 x0' : Vec Ideal S2x4x16 .f32} {x2 x2' : Vec Ideal S256x1024 .fp8e5m2} {hx hx' et et' : Vec Ideal S960x256 .bf16}
    {ids ids' : Vec Ideal S256x128 .i32} {sc sc' : Vec Ideal S256x128 .f32} (hk : k = k') (h0 : x0 = x0') (h2 : x2 = x2')
    (h : hx = hx' ∧ et = et' ∧ ids = ids' ∧ sc = sc') : OUT k x0 x2 hx et ids sc = OUT k' x0' x2' hx' et' ids' sc' := by
  obtain ⟨rfl, rfl, rfl, rfl⟩ := h
  subst hk h0 h2
  rfl

/-- The block that point `n` leaves. -/
def BLOCK (n : ℕ) : Vec Ideal S960x1024 .f32 :=
  OUT n (X0 m c) (CODES m c n) (HX (X1 m c) (X3 m c)) (ET (X4 m c)) (LANES (X6 m c)) (LANES (X5 m c))

/-- After point `n`: the block of that point, and the scratches as the first point filled them. -/
theorem outsAt (n : ℕ) (hn : n < (cfgM m hO).N) : outsAt0 m hO c n hn =
    (BLOCK m c n, HX (X1 m c) (X3 m c), ET (X4 m c), LANES (X6 m c), LANES (X5 m c)) := by
  have hN : (cfgM m hO).N = 48 := N_0
  induction n with
  | zero =>
    have e0 := iblk0 m hO c ⟨0, hn⟩
    have e2 := iblk2 m hO c ⟨0, hn⟩
    have h0 : HX (iblk m hO c 1 ⟨0, hn⟩) (iblk m hO c 3 ⟨0, hn⟩) = HX (X1 m c) (X3 m c) :=
      congrArg₂ HX (iblk1 m hO c ⟨0, hn⟩) (iblk3 m hO c ⟨0, hn⟩)
    have h1 : ET (iblk m hO c 4 ⟨0, hn⟩) = ET (X4 m c) := congrArg ET (iblk4 m hO c ⟨0, hn⟩)
    have h2 : LANES (e := .i32) (iblk m hO c 6 ⟨0, hn⟩) = LANES (X6 m c) := congrArg (LANES (e := .i32)) (iblk6 m hO c ⟨0, hn⟩)
    have h3 : LANES (e := .f32) (iblk m hO c 5 ⟨0, hn⟩) = LANES (X5 m c) := congrArg (LANES (e := .f32)) (iblk5 m hO c ⟨0, hn⟩)
    refine (outsAt0_A m hO c ⟨0, hn⟩ rfl).trans ?_
    refine congrArg₂ Prod.mk ?_ (congrArg₂ Prod.mk ?_ (congrArg₂ Prod.mk ?_ (congrArg₂ Prod.mk ?_ ?_)))
    · exact (out_A _ _ _ _ _ _ _ _ _ _ _ _ _ _ _ _ _ _ _ _ _ _ _ _ _ _ _ _ _ _ _ _ _ _ _).trans (OUT_ext (coords_val ⟨0, hn⟩) e0 e2 ⟨h0, h1, h2, h3⟩)
    · exact (sout_A_0 _ _ _ _ _ _ _ _ _ _ _ _ _ _ _ _ _ _ _ _ _ _ _ _ _ _ _ _ _ _ _ _ _ _ _).trans h0
    · exact (sout_A_1 _ _ _ _ _ _ _ _ _ _ _ _ _ _ _ _ _ _ _ _ _ _ _ _ _ _ _ _ _ _ _ _ _ _ _).trans h1
    · exact (sout_A_2 _ _ _ _ _ _ _ _ _ _ _ _ _ _ _ _ _ _ _ _ _ _ _ _ _ _ _ _ _ _ _ _ _ _ _).trans h2
    · exact (sout_A_3 _ _ _ _ _ _ _ _ _ _ _ _ _ _ _ _ _ _ _ _ _ _ _ _ _ _ _ _ _ _ _ _ _ _ _).trans h3
  | succ n ih =>
    have hm : ¬ (n + 1) % 48 = 0 := by omega
    have e0 := iblk0 m hO c ⟨n + 1, hn⟩
    have e2 := iblk2 m hO c ⟨n + 1, hn⟩
    have e := ih (by omega)
    have h0 := congrArg (fun p => p.2.1) e
    have h1 := congrArg (fun p => p.2.2.1) e
    have h2 := congrArg (fun p => p.2.2.2.1) e
    have h3 := congrArg (fun p => p.2.2.2.2) e
    refine (outsAt0_B m hO c ⟨n + 1, hn⟩ hm).trans ?_
    refine congrArg₂ Prod.mk ?_ (congrArg₂ Prod.mk h0 (congrArg₂ Prod.mk h1 (congrArg₂ Prod.mk h2 h3)))
    exact (out_B _ _ _ _ _ _ _ _ _ _ _ _ _ _ _ _ _ _ _ _ _ _ _ _ _ _ _ _ _ _ _ _ _ _ _ _ _ _ _).trans (OUT_ext (coords_val ⟨n + 1, hn⟩) e0 e2 ⟨h0, h1, h2, h3⟩)

end Cert.KernelIdeal.Block

end
-- ==== Proof.Array.lean ====
/-
  The array the grid writes: column block `k` is what point `k` left, so every element is a closed form of the operands.
-/
module

public import proofs.«01_k».proof.Proof.Sweep

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (m : (ℓ : Loc nD τ sig) → Buf (Elt Ideal) ℓ) (hO : Ok m) (c : Dev nD)

/-- The whole array: column `v` lies in block `v / 1024` at place `v % 1024`. -/
def ARR : Vec Ideal S960x49152 .f32 := fun i => BLOCK m c ((i 1).val / 1024) (ix2 (i 0) ⟨(i 1).val % 1024, Nat.mod_lt _ (by decide)⟩)

/-- Point `t` writes back block `t` of the array. -/
theorem flushed_eq (t : Fin (cfgM m hO).N) :
    (dats m hO 0 c).flushed 7 t = (((cfgM m hO).win 7).blk t).view.read (Elt Ideal) (ARR m c) := by
  show ((cfgM m hO).win 7).cut (grid0.coords t) ((dats m hO 0 c).after 7 t) = _
  rw [after0_7, outsAt]
  have h := idx7 (grid0.coords t)
  have hc := coords_val t
  refine funext fun (y : S960x1024.Idx) => ?_
  have hy0 : (y 0).val < 960 := (y 0).isLt
  have hy1 : (y 1).val < 1024 := (y 1).isLt
  have hb0 : ((((cfgM m hO).win 7).blk t).view.emb y (0 : Fin 2)).val = (y 0).val := by
    show cc0_transform_7 (grid0.coords t) 0 * 960 + 1 * (y 0).val = (y 0).val
    rw [h.1]; omega
  have hb1 : ((((cfgM m hO).win 7).blk t).view.emb y (1 : Fin 2)).val = 1024 * t.val + (y 1).val := by
    show cc0_transform_7 (grid0.coords t) 1 * 1024 + 1 * (y 1).val = 1024 * t.val + (y 1).val
    rw [h.2, hc]; omega
  have hk : ((((cfgM m hO).win 7).blk t).view.emb y (1 : Fin 2)).val / 1024 = t.val := by rw [hb1]; omega
  show BLOCK m c t.val y = BLOCK m c (((((cfgM m hO).win 7).blk t).view.emb y (1 : Fin 2)).val / 1024) _
  rw [hk]
  refine congrArg (BLOCK m c t.val) (funext fun a => Fin.ext ?_)
  match a with
  | ⟨0, _⟩ => exact hb0.symm
  | ⟨1, _⟩ =>
    show (y 1).val = ((((cfgM m hO).win 7).blk t).view.emb y (1 : Fin 2)).val % 1024
    rw [hb1]; omega

/-- An index is in point `t`'s block when each coordinate is in the block's range. -/
theorem mem_blk (t : Fin (cfgM m hO).N) (i : S960x49152.Idx) :
    i ∈ (((cfgM m hO).win 7).blk t).view.set ↔ ∀ a : Fin 2, cc0_transform_7 (grid0.coords t) a * S960x1024.size a ≤ (i a).val ∧
      (i a).val < cc0_transform_7 (grid0.coords t) a * S960x1024.size a + S960x1024.size a := by
  refine (iff_of_eq (congrArg (i ∈ ·) (View.set_slice_whole main_v5 (((cfgM m hO).win 7).rect t)))).trans ?_
  exact Rect.mem_set_unit

/-- Every element is written by some point. -/
theorem covered (i : S960x49152.Idx) : ∃ t : Fin (cfgM m hO).N, ((cfgM m hO).win 7).flush t = true ∧
    i ∈ (((cfgM m hO).win 7).blk t).view.set := by
  have hi0 : (i 0).val < 960 := (i 0).isLt
  have hi1 : (i 1).val < 49152 := (i 1).isLt
  have hN : grid0.N = 48 := N_0
  refine ⟨⟨(i 1).val / 1024, lt_of_lt_of_eq (by omega) hN.symm⟩, flush0_7 _ _, ?_⟩
  rw [mem_blk]
  intro a
  have h := idx7 (grid0.coords ⟨(i 1).val / 1024, lt_of_lt_of_eq (by omega) hN.symm⟩)
  have hc := coords_val ⟨(i 1).val / 1024, lt_of_lt_of_eq (by omega) hN.symm⟩
  match a with
  | ⟨0, _⟩ =>
    show cc0_transform_7 (grid0.coords _) 0 * 960 ≤ (i 0).val ∧ (i 0).val < cc0_transform_7 (grid0.coords _) 0 * 960 + 960
    rw [h.1]; omega
  | ⟨1, _⟩ =>
    show cc0_transform_7 (grid0.coords _) 1 * 1024 ≤ (i 1).val ∧ (i 1).val < cc0_transform_7 (grid0.coords _) 1 * 1024 + 1024
    rw [h.2, hc]; show (i 1).val / 1024 * 1024 ≤ (i 1).val ∧ (i 1).val < (i 1).val / 1024 * 1024 + 1024; omega

/-- The array after the run. -/
theorem final : (dats m hO 0 c).arrAt 7 (cfgM m hO).N = ARR m c :=
  (dats m hO 0 c).arrAt_eq_of_cover 7 _ (fun t _ => flushed_eq m hO c t) (fun i => covered m hO i)

end Cert.KernelIdeal.Block

end
-- ==== Proof.Entry.lean ====
/-
  The arrays as the region finds them: the host lines before it only move elements of the arguments.
-/
module

public import proofs.«01_k».proof.Proof.Array
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (m : (ℓ : Loc nD τ sig) → Buf (Elt Ideal) ℓ) (hO : Ok m) (c : Dev nD)

/-- The arguments. -/
abbrev A0 : Vec Ideal S2x128x49152 .fp8e5m2 := m ((c : Thread nD τ).loc main_arg0)
abbrev A1 : Vec Ideal S2x4x16 .f32 := m ((c : Thread nD τ).loc main_arg1)
abbrev A2 : Vec Ideal S2x128x960 .fp8e4m3 := m ((c : Thread nD τ).loc main_arg2)
abbrev A3 : Vec Ideal S2x4 .f32 := m ((c : Thread nD τ).loc main_arg3)
abbrev A4 : Vec Ideal S256x960 .fp8e5m2 := m ((c : Thread nD τ).loc main_arg4)
abbrev A5 : Vec Ideal S256 .f32 := m ((c : Thread nD τ).loc main_arg5)
abbrev A6 : Vec Ideal S256 .i32 := m ((c : Thread nD τ).loc main_arg6)

/-- The activation codes, positions and features exchanged. -/
theorem X3_apply (b : Fin 2) (d : Fin 960) (l : Fin 128) : X3 m c (ix3 b d l) = A2 m c (ix3 b l d) := by
  unfold X3 V V0
  after_reads_at

/-- The embedding gradients, transposed. -/
theorem X4_apply (d : Fin 960) (n : Fin 256) : X4 m c (ix2 d n) = A4 m c (ix2 n d) := by
  unfold X4 V V0
  after_reads_at

/-- The scales of the embedding gradients, as one row. -/
theorem X5_apply (n : Fin 256) : X5 m c (ix2 0 n) = A5 m c (ix1 n) := by
  unfold X5 V V0
  after_reads_at

/-- The ids, as one row. -/
theorem X6_apply (n : Fin 256) : X6 m c (ix2 0 n) = A6 m c (ix1 n) := by
  unfold X6 V V0
  after_reads_at

/-- The gradient codes, batch and position as one axis. -/
theorem X2_apply (n : Fin 256) (v : Fin 49152) :
    X2 m c (ix2 n v) = A0 m c (ix3 ⟨n.val / 128, by omega⟩ ⟨n.val % 128, by omega⟩ v) := by
  unfold X2 V V0
  after_reads_at

end Cert.KernelIdeal.Block

end
-- ==== Proof.Run.lean ====
/-
  The run of the kernel: its result as a function of the arguments, every argument left as it was.
-/
module

public import proofs.«01_k».proof.Proof.Entry

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (m : (ℓ : Loc nD τ sig) → Buf (Elt Ideal) ℓ) (c : Dev nD)

/-- The result: the array with its two axes exchanged. -/
def RES : Vec Ideal S49152x960 .f32 := fun i => ARR m c (ix2 (i 1) (i 0))

/-- The result buffer after the host line that follows the region. -/
theorem tail_result (hO : Ok m) :
    Pipeline.afterTail pcfgs (fun _ => adm m hO) (dats m hO) 0 (V0 m) [hostOps1 (F := Ideal)] c main_v6 = RES m c := by
  have h5 : Pipeline.withArrays spec0 c (V0 m c) (fun w => (dats m hO 0 c).arrAt w (cfgM m hO).N) (Proc.devRef .tc main_v5) = ARR m c :=
    (Pipeline.withArrays_arr spec0 winFacts0.arr_inj c (V0 m c) _ 7).trans (final m hO c)
  have ht : ∀ W : Valuation τ sig (Elt Ideal), StableHlo.after (List.flatten [hostOps1 (F := Ideal)]) W (Proc.devRef .tc main_v6)
      = transpose S49152x960 [1, 0] (W (Proc.devRef .tc main_v5) : Vec Ideal S960x49152 .f32) transposes_S960x49152_S49152x960_1_0 := by
    intro W
    simp only [hostOps1, List.flatten_cons, List.flatten_nil, List.append_nil]
    after_results
  refine (ht _).trans ?_
  refine (congrArg (fun x : Vec Ideal S960x49152 .f32 => transpose S49152x960 [1, 0] x transposes_S960x49152_S49152x960_1_0) h5).trans ?_
  refine funext fun (i : S49152x960.Idx) => ?_
  obtain ⟨v, d, rfl⟩ : ∃ (v : Fin 49152) (d : Fin 960), i = ix2 v d := ⟨i 0, i 1, eq_ix2 i⟩
  unfold RES
  pointwise

/-- Every execution of the kernel ends with `RES` in its result and its arguments unchanged. -/
theorem run (hO : Ok m) (ρ : Dev nD → PrngReg) :
    θ_run defs (onTc (τ := τ) (main (F := Ideal))) ⟨m, fun _ => 0, ρ⟩ (fun r => ∀ c : Dev nD,
      r.2.mem ((c.tc : Thread nD τ).loc main_v6) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v6 (by decide : main_v6 ∈ Pipeline.restRefs sig spec0)).trans (tail_result m c hO),
      ((h c).2 main_arg0 (by decide : main_arg0 ∈ Pipeline.restRefs sig spec0)).trans (W_main_arg0 m hO (dats m hO) c),
      ((h c).1 0).trans (((dats m hO 0 c).arrAt_in 0 rfl _).trans ((A_eq m hO c 0).trans (V_main_arg1 m c))),
      ((h c).2 main_arg2 (by decide : main_arg2 ∈ Pipeline.restRefs sig spec0)).trans (W_main_arg2 m hO (dats m hO) c),
      ((h c).1 1).trans (((dats m hO 0 c).arrAt_in 1 rfl _).trans ((A_eq m hO c 1).trans (V_main_arg3 m c))),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c)⟩) (run_main m ρ hO)

end Cert.KernelIdeal.Block

end
-- ==== Proof.Decode.lean ====
/-
  The reference's decoding region: each of its three results is the argument's codes as values.
-/
module

public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Decode

open Cert.ReferenceIdeal Cert.ReferenceIdeal.Gen Cert.ReferenceIdeal.Value

variable (m : (ℓ : Loc nD τ sig) → Buf (Elt Ideal) ℓ) (c : Dev nD)

/-- The gradient codes, decoded. -/
theorem reg0 : reg_main_v0_0 m c = (fun y => (m ((c : Thread nD τ).loc main_arg0) : Vec Ideal S2x128x49152 .fp8e5m2) y : Vec Ideal S2x128x49152 .bf16) := by
  unfold reg_main_v0_0
  refine (dats m 0 c).arrAt_eq_of_covers 3 _ (by decide +kernel) fun t hf y => ?_
  blk_simp
  rw [after0_3]
  frame_out
  show V m c main_arg0 ((((cfg0.win 0).blk t).view).emb y) = _
  rw [V_main_arg0]
  rfl

/-- The activation codes, decoded. -/
theorem reg1 : reg_main_v0_1 m c = (fun y => (m ((c : Thread nD τ).loc main_arg2) : Vec Ideal S2x128x960 .fp8e4m3) y : Vec Ideal S2x128x960 .bf16) := by
  unfold reg_main_v0_1
  refine (dats m 0 c).arrAt_eq_of_covers 4 _ (by decide +kernel) fun t hf y => ?_
  blk_simp
  rw [after0_4]
  frame_out
  show V m c main_arg2 ((((cfg0.win 1).blk t).view).emb y) = _
  rw [V_main_arg2]
  rfl

/-- The embedding gradients' codes, decoded. -/
theorem reg2 : reg_main_v0_2 m c = (fun y => (m ((c : Thread nD τ).loc main_arg4) : Vec Ideal S256x960 .fp8e5m2) y : Vec Ideal S256x960 .f32) := by
  unfold reg_main_v0_2
  refine (dats m 0 c).arrAt_eq_of_covers 5 _ (by decide +kernel) fun t hf y => ?_
  blk_simp
  rw [after0_5]
  frame_out
  show V m c main_arg4 ((((cfg0.win 2).blk t).view).emb y) = _
  rw [V_main_arg4]
  rfl

end Cert.ReferenceIdeal.Decode

end
-- ==== Proof.RefVal.lean ====
/-
  The reference's result at an element: the product summed over batch and position, and the rows whose id is the element's row.
-/
module

public import proofs.«01_k».proof.Proof.Gen.ReferenceIdeal.Read
public import Idealize.ShloMosaic.Lib.Pointwise
public import Idealize.ShloMosaic.Lib.TwoAxisContraction
public import Idealize.ShloMosaic.Lib.Routing.OpsPair

@[expose] public section

set_option maxRecDepth 16384

noncomputable section

open Idealize.ShloMosaic Idealize.ShloMosaic.TcCoe Idealize.SL.Sem

namespace Cert.ReferenceIdeal.RefVal

open Cert.ReferenceIdeal Cert.ReferenceIdeal.Gen Cert.ReferenceIdeal.Read

variable (x1 : Vec Ideal S2x4x16 .f32) (x3 : Vec Ideal S2x4 .f32) (x5 : Vec Ideal S256 .f32) (x6 : Vec Ideal S256 .i32)
  (r0 : Vec Ideal S2x128x49152 .bf16) (r1 : Vec Ideal S2x128x960 .bf16) (r2 : Vec Ideal S256x960 .f32)

/-- The scaled gradient: one scale for 32 positions and 3072 columns. -/
theorem g_apply (b : Fin 2) (s : Fin 128) (v : Fin 49152) :
    val_main_v6 (F := Ideal) x1 r0 (ix3 b s v) = r0 (ix3 b s v) * x1 (ix3 b ⟨s.val / 32, by omega⟩ ⟨v.val / 3072, by omega⟩) := by
  rw [val_main_v6_apply, val_main_v5_apply, val_main_v1_apply, val_main_v4_apply, val_main_v3_apply, val_main_v2_apply]
  have e0 : idx_main_v1 (idx_main_v6 (ix3 b s v)) = ix3 b s v := by
    funext a
    match a with
    | ⟨0, _⟩ => apply Fin.ext; simp [ix3]; omega
    | ⟨1, _⟩ => apply Fin.ext; simp [ix3]; omega
    | ⟨2, _⟩ => apply Fin.ext; simp [ix3]; omega
  have e1 : idx_main_v3 (idx_main_v4 (idx_main_v6 (ix3 b s v))) = ix3 b ⟨s.val / 32, by omega⟩ ⟨v.val / 3072, by omega⟩ := by
    funext a
    match a with
    | ⟨0, _⟩ => apply Fin.ext; simp [ix3]; omega
    | ⟨1, _⟩ => apply Fin.ext; simp [ix3]; omega
    | ⟨2, _⟩ => apply Fin.ext; simp [ix3]; omega
  rw [e0, e1]
  rfl

/-- The scaled activations: one scale for 32 positions. -/
theorem hx_apply (b : Fin 2) (s : Fin 128) (d : Fin 960) :
    val_main_v12 (F := Ideal) x3 r1 (ix3 b s d) = r1 (ix3 b s d) * x3 (ix2 b ⟨s.val / 32, by omega⟩) := by
  rw [val_main_v12_apply, val_main_v11_apply, val_main_v7_apply, val_main_v10_apply, val_main_v9_apply, val_main_v8_apply]
  have e0 : idx_main_v7 (idx_main_v12 (ix3 b s d)) = ix3 b s d := by
    funext a
    match a with
    | ⟨0, _⟩ => apply Fin.ext; simp [ix3]; omega
    | ⟨1, _⟩ => apply Fin.ext; simp [ix3]; omega
    | ⟨2, _⟩ => apply Fin.ext; simp [ix3]
  have e1 : idx_main_v9 (idx_main_v10 (idx_main_v12 (ix3 b s d))) = ix2 b ⟨s.val / 32, by omega⟩ := by
    funext a
    match a with
    | ⟨0, _⟩ => apply Fin.ext; simp [ix3, ix2]; omega
    | ⟨1, _⟩ => apply Fin.ext; simp [ix3, ix2]; omega
  rw [e0, e1]
  rfl

/-- The product, summed over batch and position. -/
theorem dot_at (v : Fin 49152) (d : Fin 960) :
    val_main_v13 (F := Ideal) x1 x3 r0 r1 (ix2 v d)
      = ∑ b : Fin 2, ∑ s : Fin 128, val_main_v6 (F := Ideal) x1 r0 (ix3 b s v) * val_main_v12 (F := Ideal) x3 r1 (ix3 b s d) := by
  unfold val_main_v13
  generalize val_main_v6 (F := Ideal) x1 r0 = g
  generalize val_main_v12 (F := Ideal) x3 r1 = h
  simp only [Host.dotGeneral]
  rw [Ideal.dotGeneral_apply, ValueIdx.sum_contr2 _ 2 128 rfl rfl rfl]
  refine Finset.sum_congr rfl fun b _ => Finset.sum_congr rfl fun s _ => ?_
  have v0 := ValueIdx.contrEquiv2_symm_val0 dot_S2x128x49152_S2x128x960_S49152x960_01_01_2_2_n_n 2 128 rfl rfl rfl (b, s)
  have v1 := ValueIdx.contrEquiv2_symm_val1 dot_S2x128x49152_S2x128x960_S49152x960_01_01_2_2_n_n 2 128 rfl rfl rfl (b, s)
  refine congrArg₂ (· * ·) (congrArg g (funext fun a => ?_)) (congrArg h (funext fun a => ?_))
  · match a with
    | ⟨0, _⟩ => exact Fin.ext v0
    | ⟨1, _⟩ => exact Fin.ext v1
    | ⟨2, _⟩ => rfl
  · match a with
    | ⟨0, _⟩ => exact Fin.ext v0
    | ⟨1, _⟩ => exact Fin.ext v1
    | ⟨2, _⟩ => rfl

/-- An embedding gradient times its row's scale. -/
theorem upd_apply (n : Fin 256) (d : Fin 960) : val_main_v16 (F := Ideal) x5 r2 (ix2 n d) = r2 (ix2 n d) * x5 (ix1 n) := by
  unfold val_main_v16 val_main_v15 val_main_v14
  pointwise

/-- An update lands at row `v` when its id, read signed, is `v`; its column stays. -/
theorem lands (n : Fin 256) (d' : Fin 960) (v : Fin 49152) (d : Fin 960) :
    scatter_S49152x960_S256x1_S256x960_1_0_0_1.resultIdx? (ix2 n d') (val_main_v18 (F := Ideal) x6) = some (ix2 v d)
      ↔ x6 (ix1 n) = BitVec.ofNat 32 v.val ∧ d' = d := by
  have h0 : scatter_S49152x960_S256x1_S256x960_1_0_0_1.start (ix2 n d') (val_main_v18 (F := Ideal) x6) 0 = (x6 (ix1 n)).toInt := by
    unfold ScatterDims.start
    rw [dif_pos (by decide), val_main_v18_apply]
    refine congrArg (fun i => (x6 i).toInt) (funext fun a => ?_)
    match a with
    | ⟨0, _⟩ => rfl
  have h1 : scatter_S49152x960_S256x1_S256x960_1_0_0_1.start (ix2 n d') (val_main_v18 (F := Ideal) x6) 1 = 0 := by
    unfold ScatterDims.start
    rw [dif_neg (by decide)]
  have w0 : scatter_S49152x960_S256x1_S256x960_1_0_0_1.window (ix2 n d') 0 = 0 := rfl
  have w1 : scatter_S49152x960_S256x1_S256x960_1_0_0_1.window (ix2 n d') 1 = d'.val := rfl
  refine (Routing.resultIdx?_ix2 _ _ _ v d).trans ?_
  rw [h0, h1, w0, w1]
  have hv : (BitVec.ofNat 32 v.val).toInt = (v.val : Int) := by
    rw [BitVec.toInt_ofNat']
    have := v.isLt
    simp only [Int.bmod_def]
    omega
  constructor
  · rintro ⟨a, b⟩
    exact ⟨BitVec.eq_of_toInt_eq (by rw [hv]; omega), Fin.ext (by omega)⟩
  · rintro ⟨a, b⟩
    rw [a, hv, b]
    constructor <;> omega

/-- The segment sum: row `v` collects the updates whose id is `v`. -/
theorem seg_at (v : Fin 49152) (d : Fin 960) :
    val_main_v19 (F := Ideal) x5 x6 r2 (ix2 v d)
      = ∑ n : Fin 256, if x6 (ix1 n) = BitVec.ofNat 32 v.val then val_main_v16 (F := Ideal) x5 r2 (ix2 n d) else 0 := by
  unfold val_main_v19
  generalize val_main_v16 (F := Ideal) x5 r2 = u
  have hz : val_main_v17 (F := Ideal) (ix2 v d) = 0 := by
    rw [val_main_v17_apply]
    exact Ideal.ofBits_zero_f32
  simp only [Host.scatterAdd, Ideal.hostScatterAdd_def, Ideal.hostScatterAdd]
  rw [hz, zero_add, Finset.sum_filter, sum_idx2]
  refine Finset.sum_congr rfl fun n _ => ?_
  simp only [lands]
  by_cases h : x6 (ix1 n) = BitVec.ofNat 32 v.val
  · simp [h]
  · simp [h]

/-- The reference's result at row `v`, column `d`. -/
theorem result_at (v : Fin 49152) (d : Fin 960) :
    val_main_v20 (F := Ideal) x1 x3 x5 x6 r0 r1 r2 (ix2 v d)
      = (∑ b : Fin 2, ∑ s : Fin 128,
          (r0 (ix3 b s v) * x1 (ix3 b ⟨s.val / 32, by omega⟩ ⟨v.val / 3072, by omega⟩)) * (r1 (ix3 b s d) * x3 (ix2 b ⟨s.val / 32, by omega⟩)))
        + ∑ n : Fin 256, if x6 (ix1 n) = BitVec.ofNat 32 v.val then r2 (ix2 n d) * x5 (ix1 n) else 0 := by
  rw [val_main_v20_apply, dot_at, seg_at]
  simp only [g_apply, hx_apply, upd_apply]
  rfl

end Cert.ReferenceIdeal.RefVal

end
-- ==== Proof.Equation.lean ====
/-
  The kernel's result and the reference's are the same function of the arguments.
-/
module

public import proofs.«01_k».proof.Proof.Run
public import proofs.«01_k».proof.Proof.Decode
public import proofs.«01_k».proof.Proof.RefVal

@[expose] public section

set_option maxRecDepth 16384

noncomputable section

open Idealize.ShloMosaic Idealize.ShloMosaic.TcCoe Idealize.SL.Sem

namespace Cert.Equation

/-- A sum over the 256 positions is a sum over two batches of 128. -/
theorem sum_positions (f : Fin 256 → EReal) :
    ∑ n, f n = ∑ b : Fin 2, ∑ s : Fin 128, f ⟨b.val * 128 + s.val, by omega⟩ := by
  rw [← Fintype.sum_prod_type' (f := fun (b : Fin 2) (s : Fin 128) => f ⟨b.val * 128 + s.val, by omega⟩)]
  refine (Fintype.sum_equiv (finProdFinEquiv (m := 2) (n := 128)) _ _ fun p => ?_).symm
  exact congrArg f (Fin.ext (by show p.1.val * 128 + p.2.val = p.2.val + 128 * p.1.val; omega))

/-- Row `v`, column `d` of the weight gradient, from the arguments: scaled activations times scaled gradients summed over
    batch and position, and the scaled embedding gradients of the rows whose id is `v`. -/
def GRAD (a0 : Vec Ideal KernelIdeal.S2x128x49152 .fp8e5m2) (a1 : Vec Ideal KernelIdeal.S2x4x16 .f32)
    (a2 : Vec Ideal KernelIdeal.S2x128x960 .fp8e4m3) (a3 : Vec Ideal KernelIdeal.S2x4 .f32)
    (a4 : Vec Ideal KernelIdeal.S256x960 .fp8e5m2) (a5 : Vec Ideal KernelIdeal.S256 .f32) (a6 : Vec Ideal KernelIdeal.S256 .i32)
    (v : Fin 49152) (d : Fin 960) : EReal :=
  (∑ b : Fin 2, ∑ s : Fin 128,
      (a0 (ix3 b s v) * a1 (ix3 b ⟨s.val / 32, by omega⟩ ⟨v.val / 3072, by omega⟩)) * (a2 (ix3 b s d) * a3 (ix2 b ⟨s.val / 32, by omega⟩)))
    + ∑ n : Fin 256, if a6 (ix1 n) = BitVec.ofNat 32 v.val then a4 (ix2 n d) * a5 (ix1 n) else (0 : EReal)

section Kernel

open Cert.KernelIdeal Cert.KernelIdeal.Gen Cert.KernelIdeal.Block

variable (m : (ℓ : Loc nD τ sig) → Buf (Elt Ideal) ℓ) (c : Dev nD)

/-- The kernel's result is the weight gradient. -/
theorem kernel_at (v : Fin 49152) (d : Fin 960) :
    RES m c (ix2 v d) = GRAD (A0 m c) (A1 m c) (A2 m c) (A3 m c) (A4 m c) (A5 m c) (A6 m c) v d := by
  have hv := v.isLt
  show BLOCK m c (v.val / 1024) (ix2 d ⟨v.val % 1024, _⟩) = _
  unfold BLOCK OUT GRAD
  have h0 : X0 m c = A1 m c := V_main_arg1 m c
  have h1 : X1 m c = A3 m c := V_main_arg3 m c
  refine congrArg₂ (· + ·) ?_ ?_
  · rw [sum_positions]
    refine Finset.sum_congr rfl fun b _ => Finset.sum_congr rfl fun s _ => ?_
    unfold HX CODES scaleAt
    rw [h0, h1]
    have q1 : (b.val * 128 + s.val) / 128 = b.val := by omega
    have q2 : (b.val * 128 + s.val) % 128 = s.val := by omega
    have q3 : (1024 * (v.val / 1024) + v.val % 1024) % 49152 = v.val := by omega
    have q4 : v.val / 1024 / 3 % 16 = v.val / 3072 := by omega
    show X3 m c (ix3 ⟨(b.val * 128 + s.val) / 128, _⟩ d ⟨(b.val * 128 + s.val) % 128, _⟩)
          * A3 m c (ix2 ⟨(b.val * 128 + s.val) / 128, _⟩ ⟨(b.val * 128 + s.val) % 128 / 32, _⟩)
        * (X2 m c (ix2 ⟨b.val * 128 + s.val, _⟩ ⟨(1024 * (v.val / 1024) + v.val % 1024) % 49152, _⟩)
          * A1 m c (ix3 ⟨(b.val * 128 + s.val) / 128, _⟩ ⟨(b.val * 128 + s.val) % 128 / 32, _⟩ ⟨v.val / 1024 / 3 % 16, _⟩)) = _
    rw [X3_apply, X2_apply]
    simp only [q1, q2, q3, q4]
    exact mul_comm _ _
  · refine Finset.sum_congr rfl fun n _ => ?_
    have q : 1024 * (v.val / 1024) + v.val % 1024 = v.val := by omega
    show X4 m c (ix2 d n) * (if X6 m c (ix2 0 n) = BitVec.ofNat 32 (1024 * (v.val / 1024) + v.val % 1024) then X5 m c (ix2 0 n) else 0) = _
    rw [q, X4_apply, X5_apply, X6_apply, mul_ite, mul_zero]

/-- The kernel's result, as an array. -/
theorem kernel_eq : RES m c = fun i => GRAD (A0 m c) (A1 m c) (A2 m c) (A3 m c) (A4 m c) (A5 m c) (A6 m c) (i 0) (i 1) := by
  refine funext fun (i : S49152x960.Idx) => ?_
  obtain ⟨v, d, rfl⟩ : ∃ (v : Fin 49152) (d : Fin 960), i = ix2 v d := ⟨i 0, i 1, eq_ix2 i⟩
  exact kernel_at m c v d

end Kernel

section Reference

open Cert.ReferenceIdeal Cert.ReferenceIdeal.Gen

variable (m : (ℓ : Loc nD τ sig) → Buf (Elt Ideal) ℓ)

/-- Every execution of the reference ends with the weight gradient in its result and its arguments unchanged. -/
theorem reference_run (ρ : Dev nD → PrngReg) :
    θ_run defs (onTc (τ := τ) (main (F := Ideal))) ⟨m, fun _ => 0, ρ⟩ (fun r => ∀ c : Dev nD,
      r.2.mem ((c.tc : Thread nD τ).loc main_v20)
        = (fun i => GRAD (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (i 0) (i 1) : Vec Ideal S49152x960 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    refine ⟨(h c).1.trans ?_, (h c).2⟩
    have e := Read.val_main_v20_eq (F := Ideal) (Value.exitV m c)
    rw [Value.exit_main_arg1, Value.exit_main_arg3, Value.exit_main_arg5, Value.exit_main_arg6, Value.exit_main_v0_0,
      Value.exit_main_v0_1, Value.exit_main_v0_2, Decode.reg0, Decode.reg1, Decode.reg2] at e
    rw [Decode.reg0, Decode.reg1, Decode.reg2]
    refine e.trans (funext fun (i : S49152x960.Idx) => ?_)
    obtain ⟨v, d, rfl⟩ : ∃ (v : Fin 49152) (d : Fin 960), i = ix2 v d := ⟨i 0, i 1, eq_ix2 i⟩
    exact RefVal.result_at _ _ _ _ _ _ _ v d) (Value.run m ρ)

end Reference

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The kernel and the reference, from the same arguments, end with the same weight gradient, over the reals. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Block.RES m c, Cert.KernelIdeal.Block.run m trivial g, ?_⟩
  refine (θ_run _ _ _).mono (fun r h c => ⟨(h c).1.trans ?_, (h c).2⟩) (Cert.Equation.reference_run m' g')
  obtain ⟨e0, e1, e2, e3, e4, e5, e6⟩ := hargs c
  refine Eq.trans ?_ (Cert.Equation.kernel_eq m c).symm
  rw [e0, e1, e2, e3, e4, e5, e6]

/-- Everything claimed: each program runs to the end with its arguments unchanged and every counter back at zero; the
    idealized kernel is the kernel's own text; and over the reals it computes what the reference computes. -/
theorem claim : Cert.Claim := ⟨Cert.Kernel.Gen.facts, Cert.KernelIdeal.Gen.facts, Cert.ReferenceIdeal.Gen.facts,
  fun m ρ _ => Cert.Kernel.Gen.frame m ρ trivial, fun m ρ _ => Cert.KernelIdeal.Gen.frame m ρ trivial,
  fun m ρ _ => Cert.ReferenceIdeal.Gen.frame m ρ, trivial, algebraic⟩

end Cert.Proof

end
